-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S2x1024x128 : Shape := ⟨3, ![2, 1024, 128]⟩
abbrev S256x128 : Shape := ⟨2, ![256, 128]⟩
abbrev S128x128 : Shape := ⟨2, ![128, 128]⟩
abbrev S_ : Shape := ⟨0, ![]⟩

class Facts : Prop where
  bcast_S_S2x1024x128 : S_.BroadcastsInDim S2x1024x128 (![] : Fin 0 → Fin S2x1024x128.rank)
  bcast_S_S256x128 : S_.BroadcastsInDim S256x128 (![] : Fin 0 → Fin S256x128.rank)
  bcast_S_S128x128 : S_.BroadcastsInDim S128x128 (![] : Fin 0 → Fin S128x128.rank)

variable [Facts]

def fn {F : FTy → Type} [FloatOps F] (main_arg0 : FVec F S2x1024x128 .f32) (main_arg1 : FVec F S256x128 .f32) (main_arg2 : FVec F S128x128 .f32) (main_arg3 : FVec F S128x128 .f32) (main_arg4 : FVec F S128x128 .f32) (main_arg5 : FVec F S128x128 .f32) : IVec S2x1024x128 1 × IVec S256x128 1 × IVec S128x128 1 × IVec S128x128 1 × IVec S128x128 1 × IVec S128x128 1 :=
  let main_v0 : FVec F S2x1024x128 .f32 := Host.absf main_arg0
  let main_cst : FVec F S_ .f32 := constant S_ .f32 0x7F800000#32
  let main_v1 : FVec F S2x1024x128 .f32 := broadcastInDim S2x1024x128 ![] bcast_S_S2x1024x128 main_cst
  let main_v2 : IVec S2x1024x128 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128x128 .f32 := Host.absf main_arg4
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  (main_v2, main_v5, main_v8, main_v11, main_v14, main_v17)
-- ==== Kernel.lean ====
abbrev S2x1024x128 : Shape := ⟨3, ![2, 1024, 128]⟩
abbrev S256x128 : Shape := ⟨2, ![256, 128]⟩
abbrev S128x128 : Shape := ⟨2, ![128, 128]⟩
abbrev S4x2x1024x128x128 : Shape := ⟨5, ![4, 2, 1024, 128, 128]⟩
abbrev S4x2x128x128 : Shape := ⟨4, ![4, 2, 128, 128]⟩
abbrev S2x16x1x64 : Shape := ⟨4, ![2, 16, 1, 64]⟩
abbrev S1x64x128 : Shape := ⟨3, ![1, 64, 128]⟩
abbrev S4x1x64x128x128 : Shape := ⟨5, ![4, 1, 64, 128, 128]⟩
abbrev S4x1x128x128 : Shape := ⟨4, ![4, 1, 128, 128]⟩
abbrev S1x1x1x64 : Shape := ⟨4, ![1, 1, 1, 64]⟩
abbrev S4x128x128 : Shape := ⟨3, ![4, 128, 128]⟩
abbrev S64x128 : Shape := ⟨2, ![64, 128]⟩
abbrev S256x64 : Shape := ⟨2, ![256, 64]⟩
abbrev S128x64 : Shape := ⟨2, ![128, 64]⟩
abbrev S64 : Shape := ⟨1, ![64]⟩
abbrev S64x128x64 : Shape := ⟨3, ![64, 128, 64]⟩
abbrev S1x128x64 : Shape := ⟨3, ![1, 128, 64]⟩
abbrev S8192x64 : Shape := ⟨2, ![8192, 64]⟩
abbrev S8192x128 : Shape := ⟨2, ![8192, 128]⟩
abbrev S64x128x128 : Shape := ⟨3, ![64, 128, 128]⟩
abbrev S1x128x128 : Shape := ⟨3, ![1, 128, 128]⟩
abbrev S1x1x64x128x128 : Shape := ⟨5, ![1, 1, 64, 128, 128]⟩
abbrev S1x1x128x128 : Shape := ⟨4, ![1, 1, 128, 128]⟩

abbrev nBuf : Space → Nat
  | .hbm => 9
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S256x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S4x2x1024x128x128, .f32⟩
  | .hbm, ⟨7, _⟩ => ⟨S4x2x128x128, .f32⟩
  | .hbm, ⟨8, _⟩ => ⟨S2x16x1x64, .f32⟩
  | .local _ .vmem, ⟨0, _⟩ => ⟨S1x64x128, .f32⟩
  | .local _ .vmem, ⟨1, _⟩ => ⟨S1x64x128, .f32⟩
  | .local _ .vmem, ⟨2, _⟩ => ⟨S256x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S4x1x64x128x128, .f32⟩
  | .local _ .vmem, ⟨8, _⟩ => ⟨S4x1x64x128x128, .f32⟩
  | .local _ .vmem, ⟨9, _⟩ => ⟨S4x1x128x128, .f32⟩
  | .local _ .vmem, ⟨10, _⟩ => ⟨S4x1x128x128, .f32⟩
  | .local _ .vmem, ⟨11, _⟩ => ⟨S1x1x1x64, .f32⟩
  | .local _ .vmem, ⟨12, _⟩ => ⟨S1x1x1x64, .f32⟩
  | .local _ .vmem, ⟨13, _⟩ => ⟨S4x128x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v144 : BitVec 1 := Scalar.cmpi .eq arg1 c15_i32
  let v145 : BitVec 32 := Scalar.extui v144
  let c0_i32_82 : BitVec 32 := 0#32
  let v146 : BitVec 1 := Scalar.cmpi .ne v145 c0_i32_82
  v146

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x1x64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x1024x128 : Shape := ⟨3, ![2, 1024, 128]⟩
abbrev S256x128 : Shape := ⟨2, ![256, 128]⟩
abbrev S128x128 : Shape := ⟨2, ![128, 128]⟩
abbrev S2048x128 : Shape := ⟨2, ![2048, 128]⟩
abbrev S128x256 : Shape := ⟨2, ![128, 256]⟩
abbrev S2048x256 : Shape := ⟨2, ![2048, 256]⟩
abbrev S2048x1x128 : Shape := ⟨3, ![2048, 1, 128]⟩
abbrev S_ : Shape := ⟨0, ![]⟩
abbrev S2048 : Shape := ⟨1, ![2048]⟩
abbrev S128 : Shape := ⟨1, ![128]⟩
abbrev S1x128 : Shape := ⟨2, ![1, 128]⟩
abbrev S2048x128x128 : Shape := ⟨3, ![2048, 128, 128]⟩
abbrev S2x1024x128x128 : Shape := ⟨4, ![2, 1024, 128, 128]⟩
abbrev S2x1x128x128 : Shape := ⟨4, ![2, 1, 128, 128]⟩
abbrev S2x128x128 : Shape := ⟨3, ![2, 128, 128]⟩
abbrev S1x128x128 : Shape := ⟨3, ![1, 128, 128]⟩
abbrev S1x2x1024x128x128 : Shape := ⟨5, ![1, 2, 1024, 128, 128]⟩
abbrev S4x2x1024x128x128 : Shape := ⟨5, ![4, 2, 1024, 128, 128]⟩
abbrev S1x2x128x128 : Shape := ⟨4, ![1, 2, 128, 128]⟩
abbrev S4x2x128x128 : Shape := ⟨4, ![4, 2, 128, 128]⟩
abbrev S2x16x1x64 : Shape := ⟨4, ![2, 16, 1, 64]⟩

abbrev nBuf : Space → Nat
  | .hbm => 152
  | .vmem => 0
  | .smem => 0
  | _ => 0

abbrev hbmTy0_0 (i : Nat) : BufTy := match i % 128 with
  | 0 => ⟨S2x1024x128, .f32⟩
  | 1 => ⟨S256x128, .f32⟩
  | 2 => ⟨S128x128, .f32⟩
  | 3 => ⟨S128x128, .f32⟩
  | 4 => ⟨S128x128, .f32⟩
  | 5 => ⟨S128x128, .f32⟩
  | 6 => ⟨S2048x128, .f32⟩
  | 7 => ⟨S128x256, .f32⟩
  | 8 => ⟨S2048x256, .f32⟩
  | 9 => ⟨S2048x128, .f32⟩
  | 10 => ⟨S2048x128, .f32⟩
  | 11 => ⟨S2048x1x128, .f32⟩
  | 12 => ⟨S128x128, .f32⟩
  | 13 => ⟨S2048x1x128, .f32⟩
  | 14 => ⟨S2048x1x128, .f32⟩
  | 15 => ⟨S2048x1x128, .f32⟩
  | 16 => ⟨S_, .f32⟩
  | 17 => ⟨S2048x1x128, .f32⟩
  | 18 => ⟨S2048x1x128, .f32⟩
  | 19 => ⟨S_, .f32⟩
  | 20 => ⟨S2048x1x128, .f32⟩
  | 21 => ⟨S2048x1x128, .f32⟩
  | 22 => ⟨S_, .f32⟩
  | 23 => ⟨S2048x1x128, .f32⟩
  | 24 => ⟨S2048x1x128, .f32⟩
  | 25 => ⟨S2048x1x128, .f32⟩
  | 26 => ⟨S2048x1x128, .f32⟩
  | 27 => ⟨S128x128, .f32⟩
  | 28 => ⟨S2048x1x128, .f32⟩
  | 29 => ⟨S2048x1x128, .f32⟩
  | 30 => ⟨S2048x1x128, .f32⟩
  | 31 => ⟨S_, .f32⟩
  | 32 => ⟨S2048x1x128, .f32⟩
  | 33 => ⟨S2048x1x128, .f32⟩
  | 34 => ⟨S_, .f32⟩
  | 35 => ⟨S2048x1x128, .f32⟩
  | 36 => ⟨S2048x1x128, .f32⟩
  | 37 => ⟨S_, .f32⟩
  | 38 => ⟨S2048x1x128, .f32⟩
  | 39 => ⟨S2048x1x128, .f32⟩
  | 40 => ⟨S2048x1x128, .f32⟩
  | 41 => ⟨S2048x1x128, .f32⟩
  | 42 => ⟨S128x128, .f32⟩
  | 43 => ⟨S2048x1x128, .f32⟩
  | 44 => ⟨S2048x1x128, .f32⟩
  | 45 => ⟨S2048x1x128, .f32⟩
  | 46 => ⟨S_, .f32⟩
  | 47 => ⟨S2048x1x128, .f32⟩
  | 48 => ⟨S2048x1x128, .f32⟩
  | 49 => ⟨S_, .f32⟩
  | 50 => ⟨S2048x1x128, .f32⟩
  | 51 => ⟨S2048x1x128, .f32⟩
  | 52 => ⟨S_, .f32⟩
  | 53 => ⟨S2048x1x128, .f32⟩
  | 54 => ⟨S2048x1x128, .f32⟩
  | 55 => ⟨S2048x1x128, .f32⟩
  | 56 => ⟨S2048x1x128, .f32⟩
  | 57 => ⟨S128x128, .f32⟩
  | 58 => ⟨S2048x1x128, .f32⟩
  | 59 => ⟨S2048x128, .f32⟩
  | 60 => ⟨S2048x128, .f32⟩
  | 61 => ⟨S2048x128, .f32⟩
  | 62 => ⟨S_, .f32⟩
  | 63 => ⟨S2048x128, .f32⟩
  | 64 => ⟨S2048x128, .f32⟩
  | 65 => ⟨S_, .f32⟩
  | 66 => ⟨S2048, .f32⟩
  | 67 => ⟨S_, .f32⟩
  | 68 => ⟨S2048, .f32⟩
  | 69 => ⟨S2048, .f32⟩
  | 70 => ⟨S_, .f32⟩
  | 71 => ⟨S_, .f32⟩
  | 72 => ⟨S_, .f32⟩
  | 73 => ⟨S128, .f32⟩
  | 74 => ⟨S1x128, .f32⟩
  | 75 => ⟨S2048x128, .f32⟩
  | 76 => ⟨S2048x128, .f32⟩
  | 77 => ⟨S2048x1x128, .f32⟩
  | 78 => ⟨S2048x128x128, .f32⟩
  | 79 => ⟨S2048x128x128, .f32⟩
  | 80 => ⟨S2048x1x128, .f32⟩
  | 81 => ⟨S2048x128x128, .f32⟩
  | 82 => ⟨S2048x1x128, .f32⟩
  | 83 => ⟨S2048x1x128, .f32⟩
  | 84 => ⟨S2048x1x128, .f32⟩
  | 85 => ⟨S2048x1x128, .f32⟩
  | 86 => ⟨S2048x128x128, .f32⟩
  | 87 => ⟨S2048x128x128, .f32⟩
  | 88 => ⟨S2048x1x128, .f32⟩
  | 89 => ⟨S2048x128x128, .f32⟩
  | 90 => ⟨S2048x1x128, .f32⟩
  | 91 => ⟨S2048x1x128, .f32⟩
  | 92 => ⟨S2048x1x128, .f32⟩
  | 93 => ⟨S2048x1x128, .f32⟩
  | 94 => ⟨S2048x128x128, .f32⟩
  | 95 => ⟨S2048x128x128, .f32⟩
  | 96 => ⟨S2048x1x128, .f32⟩
  | 97 => ⟨S2048x128x128, .f32⟩
  | 98 => ⟨S2048x1x128, .f32⟩
  | 99 => ⟨S2048x1x128, .f32⟩
  | 100 => ⟨S2048x1x128, .f32⟩
  | 101 => ⟨S2048x1x128, .f32⟩
  | 102 => ⟨S2048x128x128, .f32⟩
  | 103 => ⟨S2048x128x128, .f32⟩
  | 104 => ⟨S2048x128x128, .f32⟩
  | 105 => ⟨S2x1024x128x128, .f32⟩
  | 106 => ⟨S_, .f32⟩
  | 107 => ⟨S_, .f32⟩
  | 108 => ⟨S2x1024x128x128, .f32⟩
  | 109 => ⟨S2x1024x128x128, .f32⟩
  | 110 => ⟨S_, .f32⟩
  | 111 => ⟨S_, .f32⟩
  | 112 => ⟨S2x1024x128x128, .f32⟩
  | 113 => ⟨S2x1024x128x128, .f32⟩
  | 114 => ⟨S_, .f32⟩
  | 115 => ⟨S_, .f32⟩
  | 116 => ⟨S2x1024x128x128, .f32⟩
  | 117 => ⟨S2x1024x128x128, .f32⟩
  | 118 => ⟨S_, .f32⟩
  | 119 => ⟨S_, .f32⟩
  | 120 => ⟨S2x1024x128x128, .f32⟩
  | 121 => ⟨S2x1x128x128, .f32⟩
  | 122 => ⟨S2x128x128, .f32⟩
  | 123 => ⟨S1x128x128, .f32⟩
  | 124 => ⟨S2x128x128, .f32⟩
  | 125 => ⟨S2x128x128, .f32⟩
  | 126 => ⟨S2x1x128x128, .f32⟩
  | 127 => ⟨S2x128x128, .f32⟩
  | _ => ⟨S2x1024x128, .f32⟩

abbrev hbmTy0_1 (i : Nat) : BufTy := match i % 128 with
  | 0 => ⟨S1x128x128, .f32⟩
  | 1 => ⟨S2x128x128, .f32⟩
  | 2 => ⟨S2x128x128, .f32⟩
  | 3 => ⟨S2x1x128x128, .f32⟩
  | 4 => ⟨S2x128x128, .f32⟩
  | 5 => ⟨S1x128x128, .f32⟩
  | 6 => ⟨S2x128x128, .f32⟩
  | 7 => ⟨S2x128x128, .f32⟩
  | 8 => ⟨S2x1x128x128, .f32⟩
  | 9 => ⟨S2x128x128, .f32⟩
  | 10 => ⟨S1x128x128, .f32⟩
  | 11 => ⟨S2x128x128, .f32⟩
  | 12 => ⟨S2x128x128, .f32⟩
  | 13 => ⟨S1x2x1024x128x128, .f32⟩
  | 14 => ⟨S1x2x1024x128x128, .f32⟩
  | 15 => ⟨S1x2x1024x128x128, .f32⟩
  | 16 => ⟨S1x2x1024x128x128, .f32⟩
  | 17 => ⟨S4x2x1024x128x128, .f32⟩
  | 18 => ⟨S1x2x128x128, .f32⟩
  | 19 => ⟨S1x2x128x128, .f32⟩
  | 20 => ⟨S1x2x128x128, .f32⟩
  | 21 => ⟨S1x2x128x128, .f32⟩
  | 22 => ⟨S4x2x128x128, .f32⟩
  | 23 => ⟨S2x16x1x64, .f32⟩
  | _ => ⟨S2x1024x128, .f32⟩

abbrev hbmTy (i : Nat) : BufTy := match i / 128 with
  | 0 => hbmTy0_0 i
  | 1 => hbmTy0_1 i
  | _ => ⟨S2x1024x128, .f32⟩

abbrev bufTy : (tb : Table) → Fin (tcTables nBuf tb) → BufTy
  | .hbm, ⟨i, _⟩ => hbmTy i
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_v11_2 : Ref sig .tc := ⟨.hbm, 36, rfl⟩
abbrev main_call1_cst_1 : Ref sig .tc := ⟨.hbm, 37, rfl⟩
abbrev main_call1_v6 : Ref sig .tc := ⟨.hbm, 38, rfl⟩
abbrev main_call1_v7 : Ref sig .tc := ⟨.hbm, 39, rfl⟩
abbrev main_v11_1 : Ref sig .tc := ⟨.hbm, 40, rfl⟩
abbrev main_v11_0 : Ref sig .tc := ⟨.hbm, 41, rfl⟩
abbrev main_v12 : Ref sig .tc := ⟨.hbm, 42, rfl⟩
abbrev main_v13 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_v14_2 : Ref sig .tc := ⟨.hbm, 51, rfl⟩
abbrev main_call2_cst_1 : Ref sig .tc := ⟨.hbm, 52, rfl⟩
abbrev main_call2_v6 : Ref sig .tc := ⟨.hbm, 53, rfl⟩
abbrev main_call2_v7 : Ref sig .tc := ⟨.hbm, 54, rfl⟩
abbrev main_v14_1 : Ref sig .tc := ⟨.hbm, 55, rfl⟩
abbrev main_v14_0 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst : Ref sig .tc := ⟨.hbm, 62, rfl⟩
abbrev main_v20 : Ref sig .tc := ⟨.hbm, 63, rfl⟩
abbrev main_v21 : Ref sig .tc := ⟨.hbm, 64, rfl⟩
abbrev main_cst_0 : Ref sig .tc := ⟨.hbm, 65, rfl⟩
abbrev main_v22 : Ref sig .tc := ⟨.hbm, 66, rfl⟩
abbrev main_cst_1 : Ref sig .tc := ⟨.hbm, 67, rfl⟩
abbrev main_v23 : Ref sig .tc := ⟨.hbm, 68, rfl⟩
abbrev main_v24 : Ref sig .tc := ⟨.hbm, 69, rfl⟩
abbrev main_cst_2 : Ref sig .tc := ⟨.hbm, 70, rfl⟩
abbrev main_cst_3 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call6_call0_cst : Ref sig .tc := ⟨.hbm, 106, rfl⟩
abbrev main_call6_call0_v0 : Ref sig .tc := ⟨.hbm, 107, rfl⟩
abbrev main_v50 : Ref sig .tc := ⟨.hbm, 108, rfl⟩
abbrev main_v51 : Ref sig .tc := ⟨.hbm, 109, rfl⟩
abbrev main_call7_call0_cst : Ref sig .tc := ⟨.hbm, 110, rfl⟩
abbrev main_call7_call0_v0 : Ref sig .tc := ⟨.hbm, 111, rfl⟩
abbrev main_v52 : Ref sig .tc := ⟨.hbm, 112, rfl⟩
abbrev main_v53 : Ref sig .tc := ⟨.hbm, 113, rfl⟩
abbrev main_call8_call0_cst : Ref sig .tc := ⟨.hbm, 114, rfl⟩
abbrev main_call8_call0_v0 : Ref sig .tc := ⟨.hbm, 115, rfl⟩
abbrev main_v54 : Ref sig .tc := ⟨.hbm, 116, rfl⟩
abbrev main_v55 : Ref sig .tc := ⟨.hbm, 117, rfl⟩
abbrev main_call9_call0_cst : Ref sig .tc := ⟨.hbm, 118, rfl⟩
abbrev main_call9_call0_v0 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩

abbrev nD : Nat := 1
abbrev τ : Topo := Topo.v7x

variable {F : FTy → Type} [FloatOps F]
-- ==== Proof.Net.lean ====
/-
  The mathematics both programs compute, for one token: a four-layer network applied to the token's key, the loss against
  the token's value, and the gradient of the loss with respect to each weight matrix as an outer product of a backward
  vector and a forward vector. Sums are over the extended reals; the facts that need finite numbers are in the second half.
-/
module

public import Idealize.ShloMosaic.PureOps.Ideal.Laws
public import Idealize.ShloMosaic.Lib.IdealHost
public import Idealize.ShloMosaic.Lib.Pointwise

@[expose] public section

noncomputable section

namespace Cert.Net

open Idealize.ShloMosaic
open scoped BigOperators

/-- The weights: the key/value projection (keys in rows 0 to 127, values in rows 128 to 255) and the four layers. -/
structure Weights where
  kv : Fin 256 → Fin 128 → EReal
  w0 : Fin 128 → Fin 128 → EReal
  w1 : Fin 128 → Fin 128 → EReal
  w2 : Fin 128 → Fin 128 → EReal
  w3 : Fin 128 → Fin 128 → EReal

/-- A matrix times a vector. -/
def lin {p : ℕ} (W : Fin p → Fin 128 → EReal) (y : Fin 128 → EReal) (a : Fin p) : EReal := ∑ k, W a k * y k

/-- The transposed matrix times a vector. -/
def back (W : Fin 128 → Fin 128 → EReal) (g : Fin 128 → EReal) (b : Fin 128) : EReal := ∑ a, W a b * g a

/-- The activation. -/
def silu (h : EReal) : EReal := h * Ideal.logistic h

/-- The activation's derivative. -/
def dsilu (h : EReal) : EReal := Ideal.logistic h * (1 + h * (1 - Ideal.logistic h))

variable (N : Weights) (x : Fin 128 → EReal)

/-- The token's key. -/
def key (a : Fin 128) : EReal := lin N.kv x ⟨a.val, by omega⟩
/-- The token's value. -/
def value (a : Fin 128) : EReal := lin N.kv x ⟨128 + a.val, by omega⟩
/-- Layer 0 before its activation. -/
def h0 (a : Fin 128) : EReal := lin N.w0 (key N x) a
/-- Layer 0 after its activation. -/
def a0 (a : Fin 128) : EReal := silu (h0 N x a)
/-- Layer 1 before its activation. -/
def h1 (a : Fin 128) : EReal := lin N.w1 (a0 N x) a
/-- Layer 1 after its activation. -/
def a1 (a : Fin 128) : EReal := silu (h1 N x a)
/-- Layer 2 before its activation. -/
def h2 (a : Fin 128) : EReal := lin N.w2 (a1 N x) a
/-- Layer 2 after its activation. -/
def a2 (a : Fin 128) : EReal := silu (h2 N x a)
/-- The network's output minus the token's value. -/
def err (a : Fin 128) : EReal := lin N.w3 (a2 N x) a - value N x a
/-- The token's loss: the mean of the squared error. -/
def loss : EReal := Ideal.div (∑ a, err N x a * err N x a) (Ideal.ofBits .f32 0x43000000#32)
/-- The gradient at the network's output: the error over 64. -/
def d3 (a : Fin 128) : EReal := Ideal.ofBits .f32 0x3C800000#32 * err N x a
/-- The gradient at layer 2 before its activation. -/
def d2 (b : Fin 128) : EReal := back N.w3 (d3 N x) b * dsilu (h2 N x b)
/-- The gradient at layer 1 before its activation. -/
def d1 (b : Fin 128) : EReal := back N.w2 (d2 N x) b * dsilu (h1 N x b)
/-- The gradient at layer 0 before its activation. -/
def d0 (b : Fin 128) : EReal := back N.w1 (d1 N x) b * dsilu (h0 N x b)

/-- The gradient of the token's loss with respect to layer `l`'s matrix, at row `a` and column `c`. -/
def grad : Fin 4 → Fin 128 → Fin 128 → EReal
  | 0, a, c => d0 N x a * key N x c
  | 1, a, c => d1 N x a * a0 N x c
  | 2, a, c => d2 N x a * a1 N x c
  | 3, a, c => d3 N x a * a2 N x c

/-- Layer `l`'s matrix. -/
def mat : Fin 4 → Fin 128 → Fin 128 → EReal
  | 0 => N.w0
  | 1 => N.w1
  | 2 => N.w2
  | 3 => N.w3

/-- The gradients of the tokens before the `m`-th, added up. -/
def run (xs : ℕ → Fin 128 → EReal) (l : Fin 4) (m : ℕ) (a c : Fin 128) : EReal :=
  ∑ q ∈ Finset.range m, grad N (xs q) l a c

/-- No tokens: zero. -/
theorem run_zero (xs : ℕ → Fin 128 → EReal) (l : Fin 4) (a c : Fin 128) : run N xs l 0 a c = 0 := by
  simp [run]

/-- A sum masked to the positions up to `t` of a block of 64 tokens, each term masked before its second factor, added to
the sum over the tokens before the block, is the sum over the tokens up to position `t` of the block. -/
theorem run_block (xs : ℕ → Fin 128 → EReal) (l : Fin 4) (m : ℕ) (t : Fin 64) (a c : Fin 128) (u v : Fin 64 → EReal)
    (huv : ∀ s : Fin 64, u s * v s = grad N (xs (m + s.val)) l a c) :
    (∑ s : Fin 64, (if s.val ≤ t.val then u s else 0) * v s) + run N xs l m a c
      = run N xs l (m + t.val + 1) a c := by
  unfold run
  rw [show m + t.val + 1 = m + (t.val + 1) by omega, Finset.sum_range_add, add_comm]
  congr 1
  have e : ∀ s : Fin 64, (if s.val ≤ t.val then u s else 0) * v s
      = (fun q : ℕ => if q ≤ t.val then grad N (xs (m + q)) l a c else 0) s.val := fun s => by
    show _ = if s.val ≤ t.val then grad N (xs (m + s.val)) l a c else 0
    split
    · exact huv s
    · exact zero_mul _
  rw [Finset.sum_congr rfl fun s _ => e s, Fin.sum_univ_eq_sum_range (fun q : ℕ =>
    if q ≤ t.val then grad N (xs (m + q)) l a c else 0) 64, ← Finset.sum_filter]
  refine Finset.sum_congr (Finset.ext fun q => ?_) fun _ _ => rfl
  have := t.isLt
  simp only [Finset.mem_filter, Finset.mem_range]
  omega

/-! ## The programs' arrays as weights and tokens -/

/-- The weights read from the five weight arrays. -/
def weights (x1 : (⟨2, ![256, 128]⟩ : Shape).Idx → EReal) (x2 x3 x4 x5 : (⟨2, ![128, 128]⟩ : Shape).Idx → EReal) : Weights where
  kv a k := x1 (ix2 a k)
  w0 a k := x2 (ix2 a k)
  w1 a k := x3 (ix2 a k)
  w2 a k := x4 (ix2 a k)
  w3 a k := x5 (ix2 a k)

/-- Token `q` of sequence `b` (zeros behind the sequence's end). -/
def tok (x0 : (⟨3, ![2, 1024, 128]⟩ : Shape).Idx → EReal) (b : Fin 2) (q : ℕ) (k : Fin 128) : EReal :=
  if h : q < 1024 then x0 (ix3 b ⟨q, h⟩ k) else 0

/-- A token of the sequence. -/
theorem tok_of_lt (x0 : (⟨3, ![2, 1024, 128]⟩ : Shape).Idx → EReal) (b : Fin 2) (q : ℕ) (h : q < 1024) (k : Fin 128) :
    tok x0 b q k = x0 (ix3 b ⟨q, h⟩ k) := dif_pos h

/-! ## Finite numbers -/

/-- The extended real is a real number. -/
def Fin' (y : EReal) : Prop := ∃ r : ℝ, y = (r : EReal)

/-- A real number is finite. -/
theorem Fin'.coe (r : ℝ) : Fin' (r : EReal) := ⟨r, rfl⟩
/-- Finite numbers add up to a finite number. -/
theorem Fin'.add {y z : EReal} : Fin' y → Fin' z → Fin' (y + z)
  | ⟨r, hr⟩, ⟨s, hs⟩ => ⟨r + s, by rw [hr, hs, EReal.coe_add]⟩
/-- The difference of finite numbers is finite. -/
theorem Fin'.sub {y z : EReal} : Fin' y → Fin' z → Fin' (y - z)
  | ⟨r, hr⟩, ⟨s, hs⟩ => ⟨r - s, by rw [hr, hs, EReal.coe_sub]⟩
/-- The product of finite numbers is finite. -/
theorem Fin'.mul {y z : EReal} : Fin' y → Fin' z → Fin' (y * z)
  | ⟨r, hr⟩, ⟨s, hs⟩ => ⟨r * s, by rw [hr, hs, EReal.coe_mul]⟩
/-- One is finite. -/
theorem Fin'.one : Fin' 1 := ⟨1, rfl⟩
/-- A sum of finite numbers is finite. -/
theorem Fin'.sum {ι : Type} (s : Finset ι) (f : ι → EReal) (hf : ∀ i, Fin' (f i)) : Fin' (∑ i ∈ s, f i) := by
  classical
  induction s using Finset.induction_on with
  | empty => exact ⟨0, by simp⟩
  | insert i s hi ih => rw [Finset.sum_insert hi]; exact (hf i).add ih
/-- The logistic function of a finite number is finite. -/
theorem Fin'.logistic {y : EReal} : Fin' y → Fin' (Ideal.logistic y)
  | ⟨r, hr⟩ => ⟨_, by rw [hr, Ideal.logistic_coe]⟩
/-- The activation of a finite number is finite. -/
theorem Fin'.silu {y : EReal} (h : Fin' y) : Fin' (silu y) := h.mul h.logistic
/-- The activation's derivative at a finite number is finite. -/
theorem Fin'.dsilu {y : EReal} (h : Fin' y) : Fin' (dsilu y) :=
  h.logistic.mul (Fin'.one.add (h.mul (Fin'.one.sub h.logistic)))
/-- A finite matrix times a finite vector is finite. -/
theorem Fin'.lin {p : ℕ} {W : Fin p → Fin 128 → EReal} {y : Fin 128 → EReal} (hW : ∀ a k, Fin' (W a k))
    (hy : ∀ k, Fin' (y k)) (a : Fin p) : Fin' (lin W y a) := Fin'.sum _ _ fun k => (hW a k).mul (hy k)
/-- A finite transposed matrix times a finite vector is finite. -/
theorem Fin'.back {W : Fin 128 → Fin 128 → EReal} {g : Fin 128 → EReal} (hW : ∀ a k, Fin' (W a k))
    (hg : ∀ k, Fin' (g k)) (b : Fin 128) : Fin' (back W g b) := Fin'.sum _ _ fun a => (hW a b).mul (hg a)

/-- Every weight is finite. -/
structure Weights.Finite (N : Weights) : Prop where
  kv : ∀ a k, Fin' (N.kv a k)
  w0 : ∀ a k, Fin' (N.w0 a k)
  w1 : ∀ a k, Fin' (N.w1 a k)
  w2 : ∀ a k, Fin' (N.w2 a k)
  w3 : ∀ a k, Fin' (N.w3 a k)

/-- The f32 pattern `0x3C800000` is 1/64. -/
theorem ofBits_64th : Ideal.ofBits .f32 0x3C800000#32 = (((1 : ℝ) / 64 : ℝ) : EReal) := by
  simp [Ideal.ofBits, Ideal.ieee, -EReal.coe_mul]; norm_num
/-- The f32 pattern `0x43000000` is 128. -/
theorem ofBits_128 : Ideal.ofBits .f32 0x43000000#32 = ((128 : ℝ) : EReal) := by
  simp [Ideal.ofBits, Ideal.ieee, -EReal.coe_mul]; norm_num
/-- The f32 pattern `0x40000000` is 2. -/
theorem ofBits_2 : Ideal.ofBits .f32 0x40000000#32 = ((2 : ℝ) : EReal) := by
  simp [Ideal.ofBits, Ideal.ieee, -EReal.coe_mul]; norm_num

/-- A 128th of twice a number is a 64th of it. -/
theorem scale (e : EReal) :
    Ideal.div 1 (Ideal.ofBits .f32 0x43000000#32) * (Ideal.ofBits .f32 0x40000000#32 * e)
      = Ideal.ofBits .f32 0x3C800000#32 * e := by
  rw [← mul_assoc, ofBits_128, ofBits_2, ofBits_64th, Ideal.div_coe (by norm_num), one_mul, ← EReal.coe_mul]
  norm_num

/-- The product rule's two terms are one product with the activation's derivative, at finite numbers. -/
theorem dsilu_split {h g : EReal} (hh : Fin' h) (hg : Fin' g) :
    g * Ideal.logistic h + (h * g) * (Ideal.logistic h * (1 - Ideal.logistic h)) = g * dsilu h := by
  obtain ⟨s, hs⟩ := hh.logistic
  obtain ⟨r, hr⟩ := hh
  obtain ⟨t, ht⟩ := hg
  unfold dsilu
  rw [hs, hr, ht, show (1 : EReal) = ((1 : ℝ) : EReal) from rfl]
  norm_cast
  ring

variable {N} {x}

section
variable (hN : N.Finite) (hx : ∀ k, Fin' (x k))
include hN hx

/-- The key is finite. -/
theorem fin_key (a : Fin 128) : Fin' (key N x a) := Fin'.lin hN.kv hx _
/-- The value is finite. -/
theorem fin_value (a : Fin 128) : Fin' (value N x a) := Fin'.lin hN.kv hx _
/-- Layer 0 is finite before its activation. -/
theorem fin_h0 (a : Fin 128) : Fin' (h0 N x a) := Fin'.lin hN.w0 (fin_key hN hx) a
/-- Layer 1 is finite before its activation. -/
theorem fin_h1 (a : Fin 128) : Fin' (h1 N x a) := Fin'.lin hN.w1 (fun k => (fin_h0 hN hx k).silu) a
/-- Layer 2 is finite before its activation. -/
theorem fin_h2 (a : Fin 128) : Fin' (h2 N x a) := Fin'.lin hN.w2 (fun k => (fin_h1 hN hx k).silu) a
/-- The error is finite. -/
theorem fin_err (a : Fin 128) : Fin' (err N x a) :=
  (Fin'.lin hN.w3 (fun k => (fin_h2 hN hx k).silu) a).sub (fin_value hN hx a)
/-- The gradient at the output is finite. -/
theorem fin_d3 (a : Fin 128) : Fin' (d3 N x a) := by
  unfold d3; rw [ofBits_64th]; exact (Fin'.coe _).mul (fin_err hN hx a)
/-- The gradient after layer 2's activation is finite. -/
theorem fin_b3 (a : Fin 128) : Fin' (back N.w3 (d3 N x) a) := Fin'.back hN.w3 (fin_d3 hN hx) a
/-- The gradient at layer 2 is finite. -/
theorem fin_d2 (a : Fin 128) : Fin' (d2 N x a) := (fin_b3 hN hx a).mul (fin_h2 hN hx a).dsilu
/-- The gradient after layer 1's activation is finite. -/
theorem fin_b2 (a : Fin 128) : Fin' (back N.w2 (d2 N x) a) := Fin'.back hN.w2 (fin_d2 hN hx) a
/-- The gradient at layer 1 is finite. -/
theorem fin_d1 (a : Fin 128) : Fin' (d1 N x a) := (fin_b2 hN hx a).mul (fin_h1 hN hx a).dsilu
/-- The gradient after layer 0's activation is finite. -/
theorem fin_b1 (a : Fin 128) : Fin' (back N.w1 (d1 N x) a) := Fin'.back hN.w1 (fin_d1 hN hx) a
end

end Cert.Net
-- ==== Proof.Block.lean ====
/-
  What one grid point of the kernel computes from its 64 tokens, each stage read at an index: columns are tokens, and each
  column is the network's mathematics of its token.
-/
module

public import proofs.«01_k».proof.Proof.Net
public import proofs.«01_k».proof.Proof.Gen.KernelIdeal.Skeleton
public import Idealize.ShloMosaic.Lib.Pointwise

@[expose] public section

set_option maxRecDepth 16384

noncomputable section

namespace Cert.Block

open Idealize.ShloMosaic
open Cert.KernelIdeal Cert.KernelIdeal.Gen
open Cert.Net
open scoped BigOperators

variable (v3 : Vec Ideal S1x64x128 .f32) (v5 : Vec Ideal S256x128 .f32) (v6 v7 v8 v9 : Vec Ideal S128x128 .f32)

/-- The block's token `s`. -/
def col (s : Fin 64) (k : Fin 128) : EReal := v3 (ix3 (0 : Fin 1) s k)

/-- The projection of the block's tokens. -/
theorem p7 (a : Fin 256) (s : Fin 64) : k0_pay7 (F := Ideal) v3 v5 (ix2 a s) = lin (fun a k => v5 (ix2 a k)) (col v3 s) a := by
  unfold k0_pay7
  pointwise
  rfl

/-- The keys. -/
theorem p8 (a : Fin 128) (s : Fin 64) : k0_pay8 (F := Ideal) v3 v5 (ix2 a s) = key (weights v5 v6 v7 v8 v9) (col v3 s) a := by
  unfold k0_pay8
  pointwise
  exact p7 v3 v5 _ s

/-- A weight matrix times a block of columns. -/
theorem dot (M : FVec Ideal S128x128 .f32) (y : FVec Ideal S128x64 .f32) (a : Fin 128) (s : Fin 64) :
    matmul (F := Ideal) dot_S128x128_S128x64_S128x64_1_0_0_1_n_n none M y (constant S128x64 .f32 0x00000000#32)
      (ix2 a s) = lin (fun a k => M (ix2 a k)) (fun k => y (ix2 k s)) a := by
  pointwise
  rfl

/-- A transposed weight matrix times a block of columns. -/
theorem dotT (M : FVec Ideal S128x128 .f32) (y : FVec Ideal S128x64 .f32) (b : Fin 128) (s : Fin 64) :
    matmul (F := Ideal) dot_S128x128_S128x64_S128x64_0_0_1_1_n_n none M y (constant S128x64 .f32 0x00000000#32)
      (ix2 b s) = back (fun a k => M (ix2 a k)) (fun k => y (ix2 k s)) b := by
  pointwise
  rfl

/-- A block after a layer, when its columns before the layer are known. -/
theorem layer (M : FVec Ideal S128x128 .f32) (y : FVec Ideal S128x64 .f32) (f : Fin 128 → EReal) (s : Fin 64)
    (hf : ∀ k, y (ix2 k s) = f k) (a : Fin 128) :
    matmul (F := Ideal) dot_S128x128_S128x64_S128x64_1_0_0_1_n_n none M y (constant S128x64 .f32 0x00000000#32)
      (ix2 a s) = lin (fun a k => M (ix2 a k)) f a :=
  (dot M y a s).trans (congrArg (fun f => lin (fun a k => M (ix2 a k)) f a) (funext hf))

/-- Layer 0 before its activation. -/
theorem p9 (a : Fin 128) (s : Fin 64) : k0_pay9 (F := Ideal) v3 v5 v6 (ix2 a s) = h0 (weights v5 v6 v7 v8 v9) (col v3 s) a :=
  layer v6 _ _ s (fun k => p8 v3 v5 v6 v7 v8 v9 k s) a
/-- Layer 0's logistic. -/
theorem p10 (a : Fin 128) (s : Fin 64) :
    k0_pay10 (F := Ideal) v3 v5 v6 (ix2 a s) = Ideal.logistic (h0 (weights v5 v6 v7 v8 v9) (col v3 s) a) :=
  congrArg Ideal.logistic (p9 v3 v5 v6 v7 v8 v9 a s)
/-- Layer 0 after its activation. -/
theorem p11 (a : Fin 128) (s : Fin 64) : k0_pay11 (F := Ideal) v3 v5 v6 (ix2 a s) = a0 (weights v5 v6 v7 v8 v9) (col v3 s) a :=
  congr (congrArg (· * ·) (p9 v3 v5 v6 v7 v8 v9 a s)) (p10 v3 v5 v6 v7 v8 v9 a s)
/-- Layer 1 before its activation. -/
theorem p12 (a : Fin 128) (s : Fin 64) : k0_pay12 (F := Ideal) v3 v5 v6 v7 (ix2 a s) = h1 (weights v5 v6 v7 v8 v9) (col v3 s) a :=
  layer v7 _ _ s (fun k => p11 v3 v5 v6 v7 v8 v9 k s) a
/-- Layer 1's logistic. -/
theorem p13 (a : Fin 128) (s : Fin 64) :
    k0_pay13 (F := Ideal) v3 v5 v6 v7 (ix2 a s) = Ideal.logistic (h1 (weights v5 v6 v7 v8 v9) (col v3 s) a) :=
  congrArg Ideal.logistic (p12 v3 v5 v6 v7 v8 v9 a s)
/-- Layer 1 after its activation. -/
theorem p14 (a : Fin 128) (s : Fin 64) : k0_pay14 (F := Ideal) v3 v5 v6 v7 (ix2 a s) = a1 (weights v5 v6 v7 v8 v9) (col v3 s) a :=
  congr (congrArg (· * ·) (p12 v3 v5 v6 v7 v8 v9 a s)) (p13 v3 v5 v6 v7 v8 v9 a s)
/-- Layer 2 before its activation. -/
theorem p15 (a : Fin 128) (s : Fin 64) : k0_pay15 (F := Ideal) v3 v5 v6 v7 v8 (ix2 a s) = h2 (weights v5 v6 v7 v8 v9) (col v3 s) a :=
  layer v8 _ _ s (fun k => p14 v3 v5 v6 v7 v8 v9 k s) a
/-- Layer 2's logistic. -/
theorem p16 (a : Fin 128) (s : Fin 64) :
    k0_pay16 (F := Ideal) v3 v5 v6 v7 v8 (ix2 a s) = Ideal.logistic (h2 (weights v5 v6 v7 v8 v9) (col v3 s) a) :=
  congrArg Ideal.logistic (p15 v3 v5 v6 v7 v8 v9 a s)
/-- Layer 2 after its activation. -/
theorem p17 (a : Fin 128) (s : Fin 64) : k0_pay17 (F := Ideal) v3 v5 v6 v7 v8 (ix2 a s) = a2 (weights v5 v6 v7 v8 v9) (col v3 s) a :=
  congr (congrArg (· * ·) (p15 v3 v5 v6 v7 v8 v9 a s)) (p16 v3 v5 v6 v7 v8 v9 a s)

/-- The error. -/
theorem p18 (a : Fin 128) (s : Fin 64) : k0_pay18 (F := Ideal) v3 v5 v6 v7 v8 v9 (ix2 a s) = err (weights v5 v6 v7 v8 v9) (col v3 s) a := by
  refine congr (congrArg (· - ·) (layer v9 _ _ s (fun k => p17 v3 v5 v6 v7 v8 v9 k s) a)) ?_
  pointwise
  exact p7 v3 v5 _ s

/-- The losses. -/
theorem p19 (i j k : Fin 1) (s : Fin 64) :
    k0_pay19 (F := Ideal) v3 v5 v6 v7 v8 v9 (ix4 i j k s) = loss (weights v5 v6 v7 v8 v9) (col v3 s) := by
  unfold k0_pay19
  pointwise
  simp only [p18 v3 v5 v6 v7 v8 v9]
  rfl

/-- The gradient at the output. -/
theorem p20 (y : FVec Ideal S128x64 .f32) (a : Fin 128) (s : Fin 64) :
    k0_pay20 (F := Ideal) y (ix2 a s) = Ideal.ofBits .f32 0x3C800000#32 * y (ix2 a s) := rfl

/-- The gradient carried back through a layer's matrix and the activation before it. -/
def bk (M : FVec Ideal S128x128 .f32) (g h l : FVec Ideal S128x64 .f32) : FVec Ideal S128x64 .f32 :=
  mulf (matmul dot_S128x128_S128x64_S128x64_0_0_1_1_n_n none M g (constant S128x64 .f32 0x00000000#32))
    (mulf l (addf (broadcast S128x64 (Scalar.ofBits .f32 0x3F800000#32))
      (mulf h (subf (broadcast S128x64 (Scalar.ofBits .f32 0x3F800000#32)) l))))

/-- The gradient carried back, read at an index. -/
theorem bk_at (M : FVec Ideal S128x128 .f32) (g h l : FVec Ideal S128x64 .f32) (s : Fin 64) (fg fh : Fin 128 → EReal)
    (hg : ∀ k, g (ix2 k s) = fg k) (hh : ∀ k, h (ix2 k s) = fh k) (hl : ∀ k, l (ix2 k s) = Ideal.logistic (fh k))
    (b : Fin 128) : bk M g h l (ix2 b s) = back (fun a k => M (ix2 a k)) fg b * dsilu (fh b) := by
  refine congr (congrArg (· * ·) ((dotT M g b s).trans (congrArg (fun f => back _ f b) (funext hg)))) ?_
  show l (ix2 b s) * (Ideal.ofBits .f32 0x3F800000#32 + h (ix2 b s) * (Ideal.ofBits .f32 0x3F800000#32 - l (ix2 b s))) = _
  rw [hh, hl, Ideal.ofBits_one_f32]
  rfl

/-- The gradient at the output, of the block's tokens. -/
def g3 : FVec Ideal S128x64 .f32 := k0_pay20 (k0_pay18 v3 v5 v6 v7 v8 v9)
/-- The gradient at layer 2, of the block's tokens. -/
def g2 : FVec Ideal S128x64 .f32 := bk v9 (g3 v3 v5 v6 v7 v8 v9) (k0_pay15 v3 v5 v6 v7 v8) (k0_pay16 v3 v5 v6 v7 v8)
/-- The gradient at layer 1, of the block's tokens. -/
def g1 : FVec Ideal S128x64 .f32 := bk v8 (g2 v3 v5 v6 v7 v8 v9) (k0_pay12 v3 v5 v6 v7) (k0_pay13 v3 v5 v6 v7)
/-- The gradient at layer 0, of the block's tokens. -/
def g0 : FVec Ideal S128x64 .f32 := bk v7 (g1 v3 v5 v6 v7 v8 v9) (k0_pay9 v3 v5 v6) (k0_pay10 v3 v5 v6)

/-- The gradient at the output is the token's. -/
theorem g3_at (a : Fin 128) (s : Fin 64) : g3 v3 v5 v6 v7 v8 v9 (ix2 a s) = d3 (weights v5 v6 v7 v8 v9) (col v3 s) a :=
  congrArg (Ideal.ofBits .f32 0x3C800000#32 * ·) (p18 v3 v5 v6 v7 v8 v9 a s)
/-- The gradient at layer 2 is the token's. -/
theorem g2_at (a : Fin 128) (s : Fin 64) : g2 v3 v5 v6 v7 v8 v9 (ix2 a s) = d2 (weights v5 v6 v7 v8 v9) (col v3 s) a :=
  bk_at _ _ _ _ s _ _ (fun k => g3_at v3 v5 v6 v7 v8 v9 k s) (fun k => p15 v3 v5 v6 v7 v8 v9 k s)
    (fun k => p16 v3 v5 v6 v7 v8 v9 k s) a
/-- The gradient at layer 1 is the token's. -/
theorem g1_at (a : Fin 128) (s : Fin 64) : g1 v3 v5 v6 v7 v8 v9 (ix2 a s) = d1 (weights v5 v6 v7 v8 v9) (col v3 s) a :=
  bk_at _ _ _ _ s _ _ (fun k => g2_at v3 v5 v6 v7 v8 v9 k s) (fun k => p12 v3 v5 v6 v7 v8 v9 k s)
    (fun k => p13 v3 v5 v6 v7 v8 v9 k s) a
/-- The gradient at layer 0 is the token's. -/
theorem g0_at (a : Fin 128) (s : Fin 64) : g0 v3 v5 v6 v7 v8 v9 (ix2 a s) = d0 (weights v5 v6 v7 v8 v9) (col v3 s) a :=
  bk_at _ _ _ _ s _ _ (fun k => g1_at v3 v5 v6 v7 v8 v9 k s) (fun k => p9 v3 v5 v6 v7 v8 v9 k s)
    (fun k => p10 v3 v5 v6 v7 v8 v9 k s) a

/-- The mask's comparison of two positions of a block. -/
theorem sle : ∀ s t : Fin 64, IntOp.cmpi CmpIPredicate.sle (BitVec.ofNat 32 s.val) (BitVec.ofNat 32 t.val)
    = if s.val ≤ t.val then 1#1 else 0#1 := by
  decide +kernel

/-- The masked running sum of a block: the gradients of the block's tokens so far plus the carried sum. -/
theorem p27 (y u : FVec Ideal S128x64 .f32) (z : Vec Ideal S1x128x128 .f32) (t : Fin 64) (a c : Fin 128) :
    k0_pay27 (F := Ideal) y u k0_pay23 z (ix3 t a c)
      = (∑ s : Fin 64, (if s.val ≤ t.val then u (ix2 a s) else 0) * y (ix2 c s)) + z (ix3 0 a c) := by
  unfold k0_pay27 k0_pay23
  pointwise
  refine congrArg (· + _) (Finset.sum_congr rfl fun s _ => ?_)
  rw [sle s t, ite_mul, zero_mul]
  by_cases h : s.val ≤ t.val
  · rw [if_pos h, if_pos h]
    rfl
  · rw [if_neg h, if_neg h]
    rfl

/-- The four matrices' backward vectors of the block. -/
def us (l : Fin 4) : FVec Ideal S128x64 .f32 := match l with
  | 0 => g0 v3 v5 v6 v7 v8 v9
  | 1 => g1 v3 v5 v6 v7 v8 v9
  | 2 => g2 v3 v5 v6 v7 v8 v9
  | 3 => g3 v3 v5 v6 v7 v8 v9

/-- The four matrices' forward vectors of the block. -/
def vs (l : Fin 4) : FVec Ideal S128x64 .f32 := match l with
  | 0 => k0_pay8 v3 v5
  | 1 => k0_pay11 v3 v5 v6
  | 2 => k0_pay14 v3 v5 v6 v7
  | 3 => k0_pay17 v3 v5 v6 v7 v8

/-- A backward vector times a forward vector is the matrix's gradient. -/
theorem us_vs (l : Fin 4) (s : Fin 64) (a c : Fin 128) :
    us v3 v5 v6 v7 v8 v9 l (ix2 a s) * vs v3 v5 v6 v7 v8 l (ix2 c s) = grad (weights v5 v6 v7 v8 v9) (col v3 s) l a c := match l with
  | 0 => congr (congrArg (· * ·) (g0_at v3 v5 v6 v7 v8 v9 a s)) (p8 v3 v5 v6 v7 v8 v9 c s)
  | 1 => congr (congrArg (· * ·) (g1_at v3 v5 v6 v7 v8 v9 a s)) (p11 v3 v5 v6 v7 v8 v9 c s)
  | 2 => congr (congrArg (· * ·) (g2_at v3 v5 v6 v7 v8 v9 a s)) (p14 v3 v5 v6 v7 v8 v9 c s)
  | 3 => congr (congrArg (· * ·) (g3_at v3 v5 v6 v7 v8 v9 a s)) (p17 v3 v5 v6 v7 v8 v9 c s)

/-- A matrix's running sums over the block, from the carried sum. -/
def cums (l : Fin 4) (z : Vec Ideal S1x128x128 .f32) : FVec Ideal S64x128x128 .f32 :=
  k0_pay27 (vs v3 v5 v6 v7 v8 l) (us v3 v5 v6 v7 v8 v9 l) k0_pay23 z

/-- The kernel's four running sums are the one function. -/
theorem cums0 (z : Vec Ideal S1x128x128 .f32) : k0_pay24 v7 v8 v9 (k0_pay8 v3 v5) (k0_pay9 v3 v5 v6) (k0_pay10 v3 v5 v6)
    (k0_pay12 v3 v5 v6 v7) (k0_pay13 v3 v5 v6 v7) (k0_pay15 v3 v5 v6 v7 v8) (k0_pay16 v3 v5 v6 v7 v8)
    (k0_pay18 v3 v5 v6 v7 v8 v9) z = cums v3 v5 v6 v7 v8 v9 0 z := rfl

/-- The running sums, when the carried sum is the sum over the tokens before the block. -/
theorem cums_at (xs : ℕ → Fin 128 → EReal) (m : ℕ) (hm : ∀ s, col v3 s = xs (m + s.val)) (l : Fin 4)
    (z : Vec Ideal S1x128x128 .f32) (hz : ∀ a c, z (ix3 0 a c) = run (weights v5 v6 v7 v8 v9) xs l m a c) (t : Fin 64) (a c : Fin 128) :
    cums v3 v5 v6 v7 v8 v9 l z (ix3 t a c) = run (weights v5 v6 v7 v8 v9) xs l (m + t.val + 1) a c := by
  unfold cums
  rw [p27, hz]
  exact run_block (weights v5 v6 v7 v8 v9) xs l m t a c _ _ fun s => by rw [us_vs, hm]

end Cert.Block
-- ==== Proof.Pieces.lean ====
/-
  What the kernel's stores leave, buffer by buffer: the four slabs a grid point writes, joined into one function of the
  buffer's index, in each of the three cases of the grid point (first of its sequence, in the middle, last).
-/
module

public import proofs.«01_k».proof.Proof.Block
public import proofs.«01_k».proof.Proof.Gen.KernelIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

namespace Cert.Pieces

open Idealize.ShloMosaic Idealize.ShloMosaic.TcCoe Idealize.ShloMosaic.Tactic
open Cert.KernelIdeal Cert.KernelIdeal.Gen
open Cert.Net Cert.Block

/-! ## Four slabs make the buffer -/

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl
/-- Four zero offsets. -/
theorem hz4 : (![0, 0, 0, 0] : Fin 4 → Nat) = fun _ => 0 := funext fun a => by fin_cases a <;> rfl

/-- Slab `l` of the carried sums. -/
def slabRect (l : Fin 4) : Rect S4x128x128 := Rect.unit (s := S4x128x128) ![l.val, 0, 0] S1x128x128.size (by revert l; decide)
/-- Slab `l` of the running sums' block. -/
def cumRect (l : Fin 4) : Rect S4x1x64x128x128 :=
  Rect.unit (s := S4x1x64x128x128) ![l.val, 0, 0, 0, 0] S1x1x64x128x128.size (by revert l; decide)
/-- Slab `l` of the final matrices' block. -/
def memRect (l : Fin 4) : Rect S4x1x128x128 :=
  Rect.unit (s := S4x1x128x128) ![l.val, 0, 0, 0] S1x1x128x128.size (by revert l; decide)

/-- An element of a slab of the carried sums, in the buffer. -/
theorem slab_emb (l : Fin 4) (x : S1x128x128.Idx) : (slabRect l).emb x = ix3 (l : Fin 4) (x 1 : Fin 128) (x 2 : Fin 128) := by
  have h0 : (x 0).val < 1 := (x 0).isLt
  funext a
  apply Fin.ext
  match a with
  | ⟨0, _⟩ => show l.val + 1 * (x 0).val = l.val; omega
  | ⟨1, _⟩ => show 0 + 1 * (x 1).val = (x 1).val; omega
  | ⟨2, _⟩ => show 0 + 1 * (x 2).val = (x 2).val; omega

/-- An element of a slab of the running sums' block, in the block. -/
theorem cum_emb (l : Fin 4) (x : S1x1x64x128x128.Idx) :
    (cumRect l).emb x = ix5 (l : Fin 4) (0 : Fin 1) (x 2 : Fin 64) (x 3 : Fin 128) (x 4 : Fin 128) := by
  have h0 : (x 0).val < 1 := (x 0).isLt
  have h1 : (x 1).val < 1 := (x 1).isLt
  funext a
  apply Fin.ext
  match a with
  | ⟨0, _⟩ => show l.val + 1 * (x 0).val = l.val; omega
  | ⟨1, _⟩ => show 0 + 1 * (x 1).val = 0; omega
  | ⟨2, _⟩ => show 0 + 1 * (x 2).val = (x 2).val; omega
  | ⟨3, _⟩ => show 0 + 1 * (x 3).val = (x 3).val; omega
  | ⟨4, _⟩ => show 0 + 1 * (x 4).val = (x 4).val; omega

/-- An element of a slab of the final matrices' block, in the block. -/
theorem mem_emb (l : Fin 4) (x : S1x1x128x128.Idx) :
    (memRect l).emb x = ix4 (l : Fin 4) (0 : Fin 1) (x 2 : Fin 128) (x 3 : Fin 128) := by
  have h0 : (x 0).val < 1 := (x 0).isLt
  have h1 : (x 1).val < 1 := (x 1).isLt
  funext a
  apply Fin.ext
  match a with
  | ⟨0, _⟩ => show l.val + 1 * (x 0).val = l.val; omega
  | ⟨1, _⟩ => show 0 + 1 * (x 1).val = 0; omega
  | ⟨2, _⟩ => show 0 + 1 * (x 2).val = (x 2).val; omega
  | ⟨3, _⟩ => show 0 + 1 * (x 3).val = (x 3).val; omega

/-- Four slabs written over anything leave the carried sums at the function they are slabs of. -/
theorem canon_slab (G : S4x128x128.Idx → EReal) (p : Fin 4 → S1x128x128.Idx → EReal)
    (L : List (View.Piece (Elt Ideal) S4x128x128 .f32)) (h : ∀ l x, p l x = G (ix3 (l : Fin 4) (x 1 : Fin 128) (x 2 : Fin 128))) :
    View.canon (Val := Elt Ideal) (e := .f32)
      (⟨slabRect 3, p 3⟩ :: ⟨slabRect 2, p 2⟩ :: ⟨slabRect 1, p 1⟩ :: ⟨slabRect 0, p 0⟩ :: L) = G := by
  have hp : ∀ l x, p l x = G ((slabRect l).emb x) := fun l x => (h l x).trans (congrArg G (slab_emb l x).symm)
  have hP : View.PiecesOf (Val := Elt Ideal) (s := S4x128x128) (e := .f32) G
      [⟨slabRect 3, p 3⟩, ⟨slabRect 2, p 2⟩, ⟨slabRect 1, p 1⟩, ⟨slabRect 0, p 0⟩] := ⟨hp 3, hp 2, hp 1, hp 0, trivial⟩
  funext y
  exact View.canon_append_of_piecesOf (Val := Elt Ideal) (s := S4x128x128) (e := .f32) G L _ hP y
    (View.cover_of_tiledL (Val := Elt Ideal) (s := S4x128x128) (e := .f32) _ S1x128x128.size (by sl_kernel_rfl) y)

/-- Four slabs written leave the running sums' block at the function they are slabs of. -/
theorem canon_cum (G : S4x1x64x128x128.Idx → EReal) (p : Fin 4 → S1x1x64x128x128.Idx → EReal)
    (h : ∀ l x, p l x = G (ix5 (l : Fin 4) (0 : Fin 1) (x 2 : Fin 64) (x 3 : Fin 128) (x 4 : Fin 128))) :
    View.canon (Val := Elt Ideal) (e := .f32) [⟨cumRect 3, p 3⟩, ⟨cumRect 2, p 2⟩, ⟨cumRect 1, p 1⟩, ⟨cumRect 0, p 0⟩] = G := by
  have hp : ∀ l x, p l x = G ((cumRect l).emb x) := fun l x => (h l x).trans (congrArg G (cum_emb l x).symm)
  have hP : View.PiecesOf (Val := Elt Ideal) (s := S4x1x64x128x128) (e := .f32) G
      [⟨cumRect 3, p 3⟩, ⟨cumRect 2, p 2⟩, ⟨cumRect 1, p 1⟩, ⟨cumRect 0, p 0⟩] := ⟨hp 3, hp 2, hp 1, hp 0, trivial⟩
  funext y
  exact View.canon_append_of_piecesOf (Val := Elt Ideal) (s := S4x1x64x128x128) (e := .f32) G [] _ hP y
    (View.cover_of_tiledL (Val := Elt Ideal) (s := S4x1x64x128x128) (e := .f32) _ S1x1x64x128x128.size (by sl_kernel_rfl) y)

/-- Four slabs written leave the final matrices' block at the function they are slabs of. -/
theorem canon_mem (G : S4x1x128x128.Idx → EReal) (p : Fin 4 → S1x1x128x128.Idx → EReal)
    (h : ∀ l x, p l x = G (ix4 (l : Fin 4) (0 : Fin 1) (x 2 : Fin 128) (x 3 : Fin 128))) :
    View.canon (Val := Elt Ideal) (e := .f32) [⟨memRect 3, p 3⟩, ⟨memRect 2, p 2⟩, ⟨memRect 1, p 1⟩, ⟨memRect 0, p 0⟩] = G := by
  have hp : ∀ l x, p l x = G ((memRect l).emb x) := fun l x => (h l x).trans (congrArg G (mem_emb l x).symm)
  have hP : View.PiecesOf (Val := Elt Ideal) (s := S4x1x128x128) (e := .f32) G
      [⟨memRect 3, p 3⟩, ⟨memRect 2, p 2⟩, ⟨memRect 1, p 1⟩, ⟨memRect 0, p 0⟩] := ⟨hp 3, hp 2, hp 1, hp 0, trivial⟩
  funext y
  exact View.canon_append_of_piecesOf (Val := Elt Ideal) (s := S4x1x128x128) (e := .f32) G [] _ hP y
    (View.cover_of_tiledL (Val := Elt Ideal) (s := S4x1x128x128) (e := .f32) _ S1x1x128x128.size (by sl_kernel_rfl) y)

/-! ## The functions -/

variable (x0 : Vec Ideal S1x64x128 .f32) (x1 : Vec Ideal S256x128 .f32) (x2 x3 x4 x5 : Vec Ideal S128x128 .f32)

/-- The carried sum of matrix `l`. -/
def slab (X : Vec Ideal S4x128x128 .f32) (l : Fin 4) : Vec Ideal S1x128x128 .f32 := View.ld (Val := Elt Ideal) X (slabRect l)

/-- The running sums' block, from the carried sums `X`. -/
def cumOf (X : Vec Ideal S4x128x128 .f32) : Vec Ideal S4x1x64x128x128 .f32 := fun i =>
  cums x0 x1 x2 x3 x4 x5 (i 0) (slab X (i 0)) (ix3 (i 2 : Fin 64) (i 3 : Fin 128) (i 4 : Fin 128))

/-- The carried sums after the point, from the carried sums `X` before it. -/
def slabOf (X : Vec Ideal S4x128x128 .f32) : Vec Ideal S4x128x128 .f32 := fun i =>
  cums x0 x1 x2 x3 x4 x5 (i 0) (slab X (i 0)) (ix3 (63 : Fin 64) (i 1 : Fin 128) (i 2 : Fin 128))

/-- The final matrices' block. -/
def memOf (X : Vec Ideal S4x128x128 .f32) : Vec Ideal S4x1x128x128 .f32 := fun i =>
  mat (weights x1 x2 x3 x4 x5) (i 0) (i 2) (i 3) + slabOf x0 x1 x2 x3 x4 x5 X (ix3 (i 0 : Fin 4) (i 2 : Fin 128) (i 3 : Fin 128))

/-- A block of running sums, with two more axes. -/
theorem p25 (w : FVec Ideal S64x128x128 .f32) (x : S1x1x64x128x128.Idx) :
    k0_pay25 (F := Ideal) w x = w (ix3 (x 2 : Fin 64) (x 3 : Fin 128) (x 4 : Fin 128)) := by
  idx_vars x
  unfold k0_pay25
  pointwise

/-- The last row of a block of running sums. -/
theorem p26 (w : FVec Ideal S64x128x128 .f32) (x : S1x128x128.Idx) :
    k0_pay26 (F := Ideal) w x = w (ix3 (63 : Fin 64) (x 1 : Fin 128) (x 2 : Fin 128)) := by
  idx_vars x
  unfold k0_pay26
  pointwise

/-- A weight matrix plus a carried sum. -/
theorem p2 (w : Vec Ideal S128x128 .f32) (z : Vec Ideal S1x128x128 .f32) (x : S1x1x128x128.Idx) :
    k0_pay2 (F := Ideal) w z x = w (ix2 (x 2 : Fin 128) (x 3 : Fin 128)) + z (ix3 (0 : Fin 1) (x 2 : Fin 128) (x 3 : Fin 128)) := by
  idx_vars x
  unfold k0_pay2
  pointwise

/-- The running sums' stores. -/
theorem cumOf_eq (X : Vec Ideal S4x128x128 .f32) : View.canon (Val := Elt Ideal) (e := .f32)
    [⟨cumRect 3, k0_pay25 (cums x0 x1 x2 x3 x4 x5 3 (slab X 3))⟩, ⟨cumRect 2, k0_pay25 (cums x0 x1 x2 x3 x4 x5 2 (slab X 2))⟩,
      ⟨cumRect 1, k0_pay25 (cums x0 x1 x2 x3 x4 x5 1 (slab X 1))⟩, ⟨cumRect 0, k0_pay25 (cums x0 x1 x2 x3 x4 x5 0 (slab X 0))⟩]
    = cumOf x0 x1 x2 x3 x4 x5 X :=
  canon_cum _ (fun l => k0_pay25 (cums x0 x1 x2 x3 x4 x5 l (slab X l))) fun l x => p25 _ x

/-- The carried sums' stores, last first, over earlier stores. -/
def slabStores (X : Vec Ideal S4x128x128 .f32) (L : List (View.Piece (Elt Ideal) S4x128x128 .f32)) :
    List (View.Piece (Elt Ideal) S4x128x128 .f32) :=
  ⟨slabRect 3, k0_pay26 (cums x0 x1 x2 x3 x4 x5 3 (slab X 3))⟩ :: ⟨slabRect 2, k0_pay26 (cums x0 x1 x2 x3 x4 x5 2 (slab X 2))⟩
    :: ⟨slabRect 1, k0_pay26 (cums x0 x1 x2 x3 x4 x5 1 (slab X 1))⟩
    :: ⟨slabRect 0, k0_pay26 (cums x0 x1 x2 x3 x4 x5 0 (slab X 0))⟩ :: L

/-- The carried sums after the stores. -/
theorem slabOf_eq (X : Vec Ideal S4x128x128 .f32) (L : List (View.Piece (Elt Ideal) S4x128x128 .f32)) :
    View.canon (slabStores x0 x1 x2 x3 x4 x5 X L) = slabOf x0 x1 x2 x3 x4 x5 X :=
  canon_slab _ (fun l => k0_pay26 (cums x0 x1 x2 x3 x4 x5 l (slab X l))) L fun l x => p26 _ x

/-- A slab loaded after the stores. -/
theorem slab_read (v : View sig .tc .vmem S4x128x128 .f32) (X : Vec Ideal S4x128x128 .f32) (l : Fin 4) :
    v.readCov (slabStores x0 x1 x2 x3 x4 x5 X []) (slabRect l).toLoadRect = slab (slabOf x0 x1 x2 x3 x4 x5 X) l := by
  rw [View.readCov_eq_canon', slabOf_eq]
  rfl

/-- The final matrices' stores. -/
theorem memOf_eq (X : Vec Ideal S4x128x128 .f32) (z : Fin 4 → Vec Ideal S1x128x128 .f32)
    (hz : ∀ l, z l = slab (slabOf x0 x1 x2 x3 x4 x5 X) l) :
    View.canon (Val := Elt Ideal) (e := .f32)
    [⟨memRect 3, k0_pay5 x5 (z 3)⟩, ⟨memRect 2, k0_pay4 x4 (z 2)⟩,
      ⟨memRect 1, k0_pay3 x3 (z 1)⟩, ⟨memRect 0, k0_pay2 x2 (z 0)⟩]
    = memOf x0 x1 x2 x3 x4 x5 X := by
  obtain rfl : z = slab (slabOf x0 x1 x2 x3 x4 x5 X) := funext hz
  have hs : ∀ (l : Fin 4) (a c : Fin 128), slab (slabOf x0 x1 x2 x3 x4 x5 X) l (ix3 0 a c)
      = slabOf x0 x1 x2 x3 x4 x5 X (ix3 l a c) := fun l a c => congrArg (slabOf x0 x1 x2 x3 x4 x5 X) (slab_emb l _)
  refine canon_mem _ (fun l => k0_pay2 (match l with | 0 => x2 | 1 => x3 | 2 => x4 | 3 => x5) (slab _ l)) fun l x => ?_
  refine (p2 _ _ x).trans ((congrArg (_ + ·) (hs l _ _)).trans (congrArg (· + _) ?_))
  match l with
  | 0 => rfl
  | 1 => rfl
  | 2 => rfl
  | 3 => rfl

/-- The zeros a sequence's first point stores. -/
abbrev zeros : Vec Ideal S4x128x128 .f32 := k0_pay6 (F := Ideal)

/-! ## The three cases of a grid point -/

section Cases

variable (c : Dev nD) (i : grid0.Coords)
  (a2 : Memref sig .tc .vmem S1x64x128 .f32) (h2 : a2.IsWhole) (a3 : Memref sig .tc .vmem S256x128 .f32) (h3 : a3.IsWhole)
  (a4 : Memref sig .tc .vmem S128x128 .f32) (h4 : a4.IsWhole) (a5 : Memref sig .tc .vmem S128x128 .f32) (h5 : a5.IsWhole)
  (a6 : Memref sig .tc .vmem S128x128 .f32) (h6 : a6.IsWhole) (a7 : Memref sig .tc .vmem S128x128 .f32) (h7 : a7.IsWhole)
  (a8 : Memref sig .tc .vmem S4x1x64x128x128 .f32) (h8 : a8.IsWhole) (a9 : Memref sig .tc .vmem S4x1x128x128 .f32) (h9 : a9.IsWhole)
  (a10 : Memref sig .tc .vmem S1x1x1x64 .f32) (h10 : a10.IsWhole) (a11 : Memref sig .tc .vmem S4x128x128 .f32) (h11 : a11.IsWhole)

/-- The first point of a sequence: the carried sums start from the zeros the point stores. -/
theorem case_A (hc0 : cond0_0 i) (hc1 : ¬cond0_1 i) :
    out0_A_6 c i a2 h2 a3 h3 a4 h4 a5 h5 a6 h6 a7 h7 a8 h8 a9 h9 a10 h10 a11 h11 hc0 hc1 x0 x1 x2 x3 x4 x5
        = cumOf x0 x1 x2 x3 x4 x5 zeros
      ∧ sout0_A_0 c i a2 h2 a3 h3 a4 h4 a5 h5 a6 h6 a7 h7 a8 h8 a9 h9 a10 h10 a11 h11 hc0 hc1 x0 x1 x2 x3 x4 x5
        = slabOf x0 x1 x2 x3 x4 x5 zeros
      ∧ out0_A_8 c i a2 h2 a3 h3 a4 h4 a5 h5 a6 h6 a7 h7 a8 h8 a9 h9 a10 h10 a11 h11 hc0 hc1 x0 x1 x2 x3 x4 x5
        = k0_pay19 x0 x1 x2 x3 x4 x5 := by
  unfold out0_A_6 sout0_A_0 out0_A_8
  rw [View.read_writes_junk_eq_canon, View.read_writes_junk_eq_canon, View.read_writes_junk_eq_canon]
  unfold kernelRun0_A
  dsimp only
  sl_unfold_words
  simp (disch := decide) only [View.readAt_eq_ld, h2.read_unread, h3.read_unread, h4.read_unread, h5.read_unread, h6.read_unread,
    h7.read_unread, View.ld_unit_zero (S := S1x64x128) hz3, View.ld_unit_zero (S := S256x128) hz2,
    View.ld_unit_zero (S := S128x128) hz2, View.canon_unit_zero (S := S1x1x1x64) hz4, ↓View.readCov_skip, View.readCov_fill]
  exact ⟨cumOf_eq x0 x1 x2 x3 x4 x5 zeros, slabOf_eq x0 x1 x2 x3 x4 x5 zeros _, trivial⟩

/-- A point in the middle of a sequence. -/
theorem case_B (hc0 : ¬cond0_0 i) (hc1 : ¬cond0_1 i) (X : Vec Ideal S4x128x128 .f32) :
    out0_B_6 c i a2 h2 a3 h3 a4 h4 a5 h5 a6 h6 a7 h7 a8 h8 a9 h9 a10 h10 a11 h11 hc0 hc1 x0 x1 x2 x3 x4 x5 X
        = cumOf x0 x1 x2 x3 x4 x5 X
      ∧ sout0_B_0 c i a2 h2 a3 h3 a4 h4 a5 h5 a6 h6 a7 h7 a8 h8 a9 h9 a10 h10 a11 h11 hc0 hc1 x0 x1 x2 x3 x4 x5 X
        = slabOf x0 x1 x2 x3 x4 x5 X
      ∧ out0_B_8 c i a2 h2 a3 h3 a4 h4 a5 h5 a6 h6 a7 h7 a8 h8 a9 h9 a10 h10 a11 h11 hc0 hc1 x0 x1 x2 x3 x4 x5 X
        = k0_pay19 x0 x1 x2 x3 x4 x5 := by
  unfold out0_B_6 sout0_B_0 out0_B_8
  rw [View.read_writes_junk_eq_canon, View.read_writes_junk_eq_canon, View.read_writes_junk_eq_canon]
  unfold kernelRun0_B
  dsimp only
  sl_unfold_words
  simp only [View.readAt_eq_ld, h2.read_unread, h3.read_unread, h4.read_unread, h5.read_unread, h6.read_unread, h7.read_unread,
    h11.read_unread, View.ld_unit_zero (S := S1x64x128) hz3, View.ld_unit_zero (S := S256x128) hz2,
    View.ld_unit_zero (S := S128x128) hz2, View.canon_unit_zero (S := S1x1x1x64) hz4]
  exact ⟨cumOf_eq x0 x1 x2 x3 x4 x5 X, slabOf_eq x0 x1 x2 x3 x4 x5 X _, trivial⟩

/-- The last point of a sequence, which also stores the final matrices. -/
theorem case_C (hc0 : ¬cond0_0 i) (hc1 : cond0_1 i) (X : Vec Ideal S4x128x128 .f32) :
    out0_C_6 c i a2 h2 a3 h3 a4 h4 a5 h5 a6 h6 a7 h7 a8 h8 a9 h9 a10 h10 a11 h11 hc0 hc1 x0 x1 x2 x3 x4 x5 X
        = cumOf x0 x1 x2 x3 x4 x5 X
      ∧ out0_C_7 c i a2 h2 a3 h3 a4 h4 a5 h5 a6 h6 a7 h7 a8 h8 a9 h9 a10 h10 a11 h11 hc0 hc1 x0 x1 x2 x3 x4 x5 X
        = memOf x0 x1 x2 x3 x4 x5 X
      ∧ out0_C_8 c i a2 h2 a3 h3 a4 h4 a5 h5 a6 h6 a7 h7 a8 h8 a9 h9 a10 h10 a11 h11 hc0 hc1 x0 x1 x2 x3 x4 x5 X
        = k0_pay19 x0 x1 x2 x3 x4 x5 := by
  unfold out0_C_6 out0_C_7 out0_C_8
  rw [View.read_writes_junk_eq_canon, View.read_writes_junk_eq_canon, View.read_writes_junk_eq_canon]
  unfold kernelRun0_C
  dsimp only
  sl_unfold_words
  simp only [View.readAt_eq_ld, h2.read_unread, h3.read_unread, h4.read_unread, h5.read_unread, h6.read_unread, h7.read_unread,
    h11.read_unread, View.ld_unit_zero (S := S1x64x128) hz3, View.ld_unit_zero (S := S256x128) hz2,
    View.ld_unit_zero (S := S128x128) hz2, View.canon_unit_zero (S := S1x1x1x64) hz4]
  exact ⟨cumOf_eq x0 x1 x2 x3 x4 x5 X, memOf_eq x0 x1 x2 x3 x4 x5 X
    (fun l => a11.view.readCov (slabStores x0 x1 x2 x3 x4 x5 X []) (slabRect l).toLoadRect) (slab_read x0 x1 x2 x3 x4 x5 a11.view X),
    trivial⟩

end Cases

end Cert.Pieces
-- ==== Proof.PointValue.lean ====
/-
  What each grid point of the kernel leaves: point `t` of 32 handles block `t % 16` (64 tokens) of sequence `t / 16`, and its
  outputs are the running sums, the losses and, at the last block, the final matrices of that sequence.
-/
module

public import proofs.«01_k».proof.Proof.Pieces
public import proofs.«01_k».proof.Proof.Gen.KernelIdeal.Value

@[expose] public section

set_option maxRecDepth 16384

noncomputable section

namespace Cert.PointValue

open Idealize.ShloMosaic Idealize.ShloMosaic.TcCoe
open Cert.KernelIdeal Cert.KernelIdeal.Gen
open Cert.Net Cert.Block Cert.Pieces

variable (m : (ℓ : Loc nD τ sig) → Buf (Elt Ideal) ℓ) (c : Dev nD)

/-- The tokens. -/
abbrev A0 : FVec Ideal S2x1024x128 .f32 := m ((c : Thread nD τ).loc main_arg0)
/-- The projection. -/
abbrev A1 : FVec Ideal S256x128 .f32 := m ((c : Thread nD τ).loc main_arg1)
/-- The first matrix. -/
abbrev A2 : FVec Ideal S128x128 .f32 := m ((c : Thread nD τ).loc main_arg2)
/-- The second matrix. -/
abbrev A3 : FVec Ideal S128x128 .f32 := m ((c : Thread nD τ).loc main_arg3)
/-- The third matrix. -/
abbrev A4 : FVec Ideal S128x128 .f32 := m ((c : Thread nD τ).loc main_arg4)
/-- The fourth matrix. -/
abbrev A5 : FVec Ideal S128x128 .f32 := m ((c : Thread nD τ).loc main_arg5)

/-- The network's weights. -/
abbrev N : Weights := weights (A1 m c) (A2 m c) (A3 m c) (A4 m c) (A5 m c)

/-- The sequence of a point. -/
def seqOf (n : ℕ) (h : n < cfg0.N) : Fin 2 := ⟨n / 16, by have := lt_of_lt_of_eq h (show cfg0.N = 32 from N_0); omega⟩

/-- The token window's block numbers. -/
theorem index0 : ∀ t : Fin grid0.N, win0_0.index t 0 = t.val / 16 ∧ win0_0.index t 1 = t.val % 16 ∧ win0_0.index t 2 = 0 := by
  decide +kernel
/-- The weights' windows are whole. -/
theorem index15 : ∀ t : Fin grid0.N, (∀ a, win0_1.index t a = 0) ∧ (∀ a, win0_2.index t a = 0) ∧ (∀ a, win0_3.index t a = 0)
    ∧ (∀ a, win0_4.index t a = 0) ∧ (∀ a, win0_5.index t a = 0) := by
  decide +kernel

/-- The block of tokens at a point. -/
theorem block0 (t : Fin cfg0.N) (s : Fin 64) :
    col (iblk m c 0 t) s = tok (A0 m c) (seqOf t.val t.isLt) (64 * (t.val % 16) + s.val) := by
  have hN := lt_of_lt_of_eq t.isLt (show cfg0.N = 32 from N_0)
  obtain ⟨i0, i1, i2⟩ := index0 t
  funext k
  refine Eq.trans ?_ (tok_of_lt (A0 m c) _ _ (by omega) _).symm
  unfold col iblk
  rw [View.read_apply]
  show V m c main_arg0 _ = m (c.tc.loc main_arg0) _
  unfold V
  congr 1
  funext a
  apply Fin.ext
  match a with
  | ⟨0, _⟩ => show win0_0.index t 0 * 1 + 1 * 0 = t.val / 16; rw [i0]; omega
  | ⟨1, _⟩ => show win0_0.index t 1 * 64 + 1 * s.val = 64 * (t.val % 16) + s.val; rw [i1]; omega
  | ⟨2, _⟩ => show win0_0.index t 2 * 128 + 1 * k.val = k.val; rw [i2]; omega

/-- A whole array read through a window of its own size at offset zero is the array. -/
theorem whole (b : Ref sig .tc) (off : Fin b.ty.shape.rank → ℕ) (h : ∀ a, off a = 0)
    (inb : ∀ a, off a * b.ty.shape.size a + b.ty.shape.size a ≤ b.ty.shape.size a) (X : b.ty.Contents (Elt Ideal)) :
    ((Memref.whole b).access (Rect.unit (fun a => off a * b.ty.shape.size a) b.ty.shape.size inb)).read (Elt Ideal) X = X :=
  Memref.read_access_unit_zero (Elt Ideal) b (funext fun a => by rw [h a, Nat.zero_mul]) inb X

/-- The weights at a point. -/
theorem blocks (t : Fin cfg0.N) : (iblk m c 1 t : Vec Ideal S256x128 .f32) = A1 m c
    ∧ (iblk m c 2 t : Vec Ideal S128x128 .f32) = A2 m c ∧ (iblk m c 3 t : Vec Ideal S128x128 .f32) = A3 m c
    ∧ (iblk m c 4 t : Vec Ideal S128x128 .f32) = A4 m c ∧ (iblk m c 5 t : Vec Ideal S128x128 .f32) = A5 m c := by
  obtain ⟨h1, h2, h3, h4, h5⟩ := index15 t
  exact ⟨whole main_arg1 _ h1 _ _, whole main_arg2 _ h2 _ _, whole main_arg3 _ h3 _ _, whole main_arg4 _ h4 _ _,
    whole main_arg5 _ h5 _ _⟩

/-- What the carried sums hold when a point adds to them: zeros at a sequence's first point, what the point before left
    otherwise. -/
def before (t : Fin cfg0.N) : Vec Ideal S4x128x128 .f32 :=
  if t.val % 16 = 0 then zeros else (outsAt0 m c (t.val - 1) (Nat.lt_of_le_of_lt (Nat.sub_le _ _) t.isLt)).2.2.2

/-- What a point leaves, over what the carried sums held before it. -/
theorem leaves (t : Fin cfg0.N) :
    (outsAt0 m c t.val t.isLt).1 = cumOf (iblk m c 0 t) (A1 m c) (A2 m c) (A3 m c) (A4 m c) (A5 m c) (before m c t)
    ∧ (t.val % 16 ≠ 15 → (outsAt0 m c t.val t.isLt).2.2.2
        = slabOf (iblk m c 0 t) (A1 m c) (A2 m c) (A3 m c) (A4 m c) (A5 m c) (before m c t))
    ∧ (t.val % 16 = 15 → (outsAt0 m c t.val t.isLt).2.1
        = memOf (iblk m c 0 t) (A1 m c) (A2 m c) (A3 m c) (A4 m c) (A5 m c) (before m c t))
    ∧ (outsAt0 m c t.val t.isLt).2.2.1 = k0_pay19 (iblk m c 0 t) (A1 m c) (A2 m c) (A3 m c) (A4 m c) (A5 m c) := by
  obtain ⟨e1, e2, e3, e4, e5⟩ := blocks m c t
  rw [← e1, ← e2, ← e3, ← e4, ← e5]
  unfold before
  by_cases h0 : t.val % 16 = 0
  · have h1 : ¬t.val % 16 = 15 := by omega
    rw [if_pos h0]
    have h := case_A (iblk m c 0 t) (iblk m c 1 t) (iblk m c 2 t) (iblk m c 3 t) (iblk m c 4 t) (iblk m c 5 t) c (grid0.coords t)
          (ms0_0 t) (hs0_0 t) (ms0_1 t) (hs0_1 t) (ms0_2 t) (hs0_2 t) (ms0_3 t) (hs0_3 t) (ms0_4 t) (hs0_4 t) (ms0_5 t) (hs0_5 t)
          (ms0_6 t) (hs0_6 t) (ms0_7 t) (hs0_7 t) (ms0_8 t) (hs0_8 t) scM0_0 (Memref.isWhole_whole _)
          ((hcond0_0 t).mpr h0) (fun h => h1 ((hcond0_1 t).mp h))
    have e := outsAt0_A m c t h0 h1
    have e6 := congrArg (fun p => p.1) e
    have e7 := congrArg (fun p => p.2.1) e
    have e8 := congrArg (fun p => p.2.2.1) e
    have e0 := congrArg (fun p => p.2.2.2) e
    dsimp only at e6 e7 e8 e0
    exact ⟨e6.trans h.1, fun _ => e0.trans h.2.1, fun h' => absurd h' h1, e8.trans h.2.2⟩
  · rw [if_neg h0]
    by_cases h1 : t.val % 16 = 15
    · have h := case_C (iblk m c 0 t) (iblk m c 1 t) (iblk m c 2 t) (iblk m c 3 t) (iblk m c 4 t) (iblk m c 5 t) c (grid0.coords t)
            (ms0_0 t) (hs0_0 t) (ms0_1 t) (hs0_1 t) (ms0_2 t) (hs0_2 t) (ms0_3 t) (hs0_3 t) (ms0_4 t) (hs0_4 t) (ms0_5 t) (hs0_5 t)
            (ms0_6 t) (hs0_6 t) (ms0_7 t) (hs0_7 t) (ms0_8 t) (hs0_8 t) scM0_0 (Memref.isWhole_whole _)
            (fun h => h0 ((hcond0_0 t).mp h)) ((hcond0_1 t).mpr h1)
            (outsAt0 m c (t.val - 1) (Nat.lt_of_le_of_lt (Nat.sub_le _ _) t.isLt)).2.2.2
      have e := outsAt0_C m c t h0 h1
      have e6 := congrArg (fun p => p.1) e
      have e7 := congrArg (fun p => p.2.1) e
      have e8 := congrArg (fun p => p.2.2.1) e
      have e0 := congrArg (fun p => p.2.2.2) e
      dsimp only at e6 e7 e8 e0
      exact ⟨e6.trans h.1, fun h' => absurd h1 h', fun _ => e7.trans h.2.1, e8.trans h.2.2⟩
    · have h := case_B (iblk m c 0 t) (iblk m c 1 t) (iblk m c 2 t) (iblk m c 3 t) (iblk m c 4 t) (iblk m c 5 t) c (grid0.coords t)
            (ms0_0 t) (hs0_0 t) (ms0_1 t) (hs0_1 t) (ms0_2 t) (hs0_2 t) (ms0_3 t) (hs0_3 t) (ms0_4 t) (hs0_4 t) (ms0_5 t) (hs0_5 t)
            (ms0_6 t) (hs0_6 t) (ms0_7 t) (hs0_7 t) (ms0_8 t) (hs0_8 t) scM0_0 (Memref.isWhole_whole _)
            (fun h => h0 ((hcond0_0 t).mp h)) (fun h => h1 ((hcond0_1 t).mp h))
            (outsAt0 m c (t.val - 1) (Nat.lt_of_le_of_lt (Nat.sub_le _ _) t.isLt)).2.2.2
      have e := outsAt0_B m c t h0 h1
      have e6 := congrArg (fun p => p.1) e
      have e7 := congrArg (fun p => p.2.1) e
      have e8 := congrArg (fun p => p.2.2.1) e
      have e0 := congrArg (fun p => p.2.2.2) e
      dsimp only at e6 e7 e8 e0
      exact ⟨e6.trans h.1, fun _ => e0.trans h.2.1, fun h' => absurd h' h1, e8.trans h.2.2⟩

/-- One point's running sums, when the carried sums were the sequence's sums over the tokens before the point. -/
theorem sums_step (t : Fin cfg0.N) (X : Vec Ideal S4x128x128 .f32)
    (hX : ∀ l a k, X (ix3 (l : Fin 4) (a : Fin 128) (k : Fin 128))
      = run (N m c) (tok (A0 m c) (seqOf t.val t.isLt)) l (64 * (t.val % 16)) a k)
    (l : Fin 4) (s : Fin 64) (a k : Fin 128) :
    cums (iblk m c 0 t) (A1 m c) (A2 m c) (A3 m c) (A4 m c) (A5 m c) l (slab X l) (ix3 s a k)
      = run (N m c) (tok (A0 m c) (seqOf t.val t.isLt)) l (64 * (t.val % 16) + s.val + 1) a k :=
  cums_at _ _ _ _ _ _ _ _ (block0 m c t) l _ (fun a k => (congrArg X (slab_emb l _)).trans (hX l a k)) s a k

/-- Before a point the carried sums are the sequence's sums over the tokens before it. -/
theorem before_eq : ∀ (n : ℕ) (hn : n < cfg0.N) (l : Fin 4) (a k : Fin 128),
    before m c ⟨n, hn⟩ (ix3 l a k) = run (N m c) (tok (A0 m c) (seqOf n hn)) l (64 * (n % 16)) a k := by
  intro n
  induction n with
  | zero =>
    intro hn l a k
    rw [show 64 * (0 % 16) = 0 from rfl, run_zero]
    exact Ideal.ofBits_zero_f32
  | succ n ih =>
    intro hn l a k
    unfold before
    by_cases h0 : (n + 1) % 16 = 0
    · rw [if_pos h0, h0, Nat.mul_zero, run_zero]
      exact Ideal.ofBits_zero_f32
    · rw [if_neg h0]
      have hp : n < cfg0.N := Nat.lt_of_succ_lt hn
      have h15 : n % 16 ≠ 15 := by omega
      have hs : seqOf (n + 1) hn = seqOf n hp := Fin.ext (show (n + 1) / 16 = n / 16 by omega)
      have hm : 64 * ((n + 1) % 16) = 64 * (n % 16) + (63 : Fin 64).val + 1 := by
        show _ = 64 * (n % 16) + 63 + 1
        omega
      rw [hs, hm]
      exact (congrFun ((leaves m c ⟨n, hp⟩).2.1 h15) (ix3 l a k)).trans
        (sums_step m c ⟨n, hp⟩ _ (fun l a k => ih hp l a k) l 63 a k)

/-- A point's running sums. -/
theorem cum_at (t : Fin cfg0.N) (i : S4x1x64x128x128.Idx) : (outsAt0 m c t.val t.isLt).1 i
    = run (N m c) (tok (A0 m c) (seqOf t.val t.isLt)) (i 0) (64 * (t.val % 16) + (i 2).val + 1) (i 3) (i 4) :=
  (congrFun (leaves m c t).1 i).trans (sums_step m c t _ (before_eq m c t.val t.isLt) _ _ _ _)

/-- A last point's final matrices. -/
theorem mem_at (t : Fin cfg0.N) (h : t.val % 16 = 15) (i : S4x1x128x128.Idx) : (outsAt0 m c t.val t.isLt).2.1 i
    = mat (N m c) (i 0) (i 2) (i 3) + run (N m c) (tok (A0 m c) (seqOf t.val t.isLt)) (i 0) 1024 (i 2) (i 3) := by
  refine (congrFun ((leaves m c t).2.2.1 h) i).trans (congrArg (mat (N m c) (i 0) (i 2) (i 3) + ·) ?_)
  refine (sums_step m c t _ (before_eq m c t.val t.isLt) (i 0) 63 (i 2) (i 3)).trans ?_
  rw [h]
  rfl

/-- A point's losses. -/
theorem loss_at (t : Fin cfg0.N) (i : S1x1x1x64.Idx) : (outsAt0 m c t.val t.isLt).2.2.1 i
    = loss (N m c) (tok (A0 m c) (seqOf t.val t.isLt) (64 * (t.val % 16) + (i 3).val)) := by
  refine (congrFun (leaves m c t).2.2.2 i).trans ?_
  idx_vars i
  exact (p19 _ _ _ _ _ _ _ _ _ _).trans (congrArg (loss (N m c)) (block0 m c t _))

end Cert.PointValue
-- ==== Proof.Results.lean ====
/-
  The kernel's three result arrays, element by element, in the words of Net.lean.
-/
module

public import proofs.«01_k».proof.Proof.PointValue

@[expose] public section

set_option maxRecDepth 16384

noncomputable section

namespace Cert.Results

open Idealize.ShloMosaic Idealize.ShloMosaic.TcCoe
open Cert.KernelIdeal Cert.KernelIdeal.Gen Cert.KernelIdeal.Value
open Cert.Net Cert.PointValue

variable (m : (ℓ : Loc nD τ sig) → Buf (Elt Ideal) ℓ) (c : Dev nD)

/-- The kernel's first result: the running sums of the four matrices' gradients. -/
theorem sums (i : S4x2x1024x128x128.Idx) : G6 m c i
    = run (N m c) (tok (A0 m c) (i 1)) (i 0) ((i 2).val + 1) (i 3) (i 4) := by
  have i0 : (i 0).val < 4 := (i 0).isLt
  have i1 : (i 1).val < 2 := (i 1).isLt
  have i2 : (i 2).val < 1024 := (i 2).isLt
  have i3 : (i 3).val < 128 := (i 3).isLt
  have i4 : (i 4).val < 128 := (i 4).isLt
  have hp : pt6Of i = 16 * (i 1).val + (i 2).val / 64 := by
    show 32 * ((i 0).val / 4 - 0) + 16 * ((i 1).val / 1 - 0) + 1 * ((i 2).val / 64 - 0) + 1 * ((i 3).val / 128 - 0)
      + 1 * ((i 4).val / 128 - 0) = _
    omega
  have hN : cfg0.N = 32 := N_0
  have h : pt6Of i < cfg0.N := by omega
  unfold G6
  rw [dif_pos h]
  refine (congrArg (fun p => p.1 (loc6Of i)) (outsAt0_sweep m c _ h)).symm.trans ?_
  refine (cum_at m c ⟨pt6Of i, h⟩ (loc6Of i)).trans ?_
  have e1 : seqOf (pt6Of i) h = (i 1 : Fin 2) := Fin.ext (show pt6Of i / 16 = (i 1).val by omega)
  have e2 : 64 * (pt6Of i % 16) + (loc6Of i 2).val + 1 = (i 2).val + 1 := by
    show 64 * (pt6Of i % 16) + (i 2).val % 64 + 1 = _
    omega
  have e0 : (loc6Of i 0 : Fin 4) = i 0 := Fin.ext (Nat.mod_eq_of_lt i0)
  have e3 : (loc6Of i 3 : Fin 128) = i 3 := Fin.ext (Nat.mod_eq_of_lt i3)
  have e4 : (loc6Of i 4 : Fin 128) = i 4 := Fin.ext (Nat.mod_eq_of_lt i4)
  exact congr (congr (congr (congr (congrArg (fun b => run (N m c) (tok (A0 m c) b)) e1) e0) e2) e3) e4

/-- The kernel's second result: each matrix plus the whole sum of its gradients. -/
theorem finals (i : S4x2x128x128.Idx) : G7 m c i
    = mat (N m c) (i 0) (i 2) (i 3) + run (N m c) (tok (A0 m c) (i 1)) (i 0) 1024 (i 2) (i 3) := by
  have i0 : (i 0).val < 4 := (i 0).isLt
  have i1 : (i 1).val < 2 := (i 1).isLt
  have i2 : (i 2).val < 128 := (i 2).isLt
  have i3 : (i 3).val < 128 := (i 3).isLt
  have hp : pt7Of i = 16 * (i 1).val + 15 := by
    show 16 * (2 * ((i 0).val / 4 - 0) + 1 * ((i 1).val / 1 - 0) + 1 * ((i 2).val / 128 - 0) + 1 * ((i 3).val / 128 - 0)) + 15 = _
    omega
  have hN : cfg0.N = 32 := N_0
  have h : pt7Of i < cfg0.N := by omega
  unfold G7
  rw [dif_pos h]
  refine (congrArg (fun p => p.2.1 (loc7Of i)) (outsAt0_sweep m c _ h)).symm.trans ?_
  refine (mem_at m c ⟨pt7Of i, h⟩ (show pt7Of i % 16 = 15 by omega) (loc7Of i)).trans ?_
  have e1 : seqOf (pt7Of i) h = (i 1 : Fin 2) := Fin.ext (show pt7Of i / 16 = (i 1).val by omega)
  have e0 : (loc7Of i 0 : Fin 4) = i 0 := Fin.ext (Nat.mod_eq_of_lt i0)
  have e2 : (loc7Of i 2 : Fin 128) = i 2 := Fin.ext (Nat.mod_eq_of_lt i2)
  have e3 : (loc7Of i 3 : Fin 128) = i 3 := Fin.ext (Nat.mod_eq_of_lt i3)
  exact congr (congrArg HAdd.hAdd (congr (congr (congrArg (mat (N m c)) e0) e2) e3))
    (congr (congr (congrFun (congr (congrArg (fun b => run (N m c) (tok (A0 m c) b)) e1) e0) 1024) e2) e3)

/-- The kernel's third result: the losses. -/
theorem losses (i : S2x16x1x64.Idx) : G8 m c i
    = loss (N m c) (tok (A0 m c) (i 0) ((i 1).val * 64 + (i 3).val)) := by
  have i0 : (i 0).val < 2 := (i 0).isLt
  have i1 : (i 1).val < 16 := (i 1).isLt
  have i2 : (i 2).val < 1 := (i 2).isLt
  have i3 : (i 3).val < 64 := (i 3).isLt
  have hp : pt8Of i = 16 * (i 0).val + (i 1).val := by
    show 16 * ((i 0).val / 1 - 0) + 1 * ((i 1).val / 1 - 0) + 1 * ((i 2).val / 1 - 0) + 1 * ((i 3).val / 64 - 0) = _
    omega
  have hN : cfg0.N = 32 := N_0
  have h : pt8Of i < cfg0.N := by omega
  unfold G8
  rw [dif_pos h]
  refine (congrArg (fun p => p.2.2.1 (loc8Of i)) (outsAt0_sweep m c _ h)).symm.trans ?_
  refine (loss_at m c ⟨pt8Of i, h⟩ (loc8Of i)).trans ?_
  have e1 : seqOf (pt8Of i) h = (i 0 : Fin 2) := Fin.ext (show pt8Of i / 16 = (i 0).val by omega)
  have e2 : 64 * (pt8Of i % 16) + (loc8Of i 3).val = (i 1).val * 64 + (i 3).val := by
    show 64 * (pt8Of i % 16) + (i 3).val % 64 = _
    omega
  exact congrArg (loss (N m c)) (congr (congrArg (tok (A0 m c)) e1) e2)

end Cert.Results
-- ==== Proof.RefTokens.lean ====
/-
  The reference's stages for one token, each the network's mathematics of that token. The forward stages agree for all
  inputs; the backward ones, which spell the activation's derivative as two terms, agree for finite ones.
-/
module

public import proofs.«01_k».proof.Proof.Net
public import proofs.«01_k».proof.Proof.Gen.ReferenceIdeal.Read

@[expose] public section

set_option maxRecDepth 16384

noncomputable section

namespace Cert.RefTokens

open Idealize.ShloMosaic
open Cert.ReferenceIdeal Cert.ReferenceIdeal.Read
open Cert.Net
open scoped BigOperators

variable (x0 : (⟨S2x1024x128, .f32⟩ : BufTy).Contents (Elt Ideal)) (x1 : (⟨S256x128, .f32⟩ : BufTy).Contents (Elt Ideal))
  (x2 x3 x4 x5 : (⟨S128x128, .f32⟩ : BufTy).Contents (Elt Ideal))

/-- The token in row `r` of the flattened batch. -/
def row (r : Fin 2048) : Fin 128 → EReal := tok x0 ⟨r.val / 1024, by omega⟩ (r.val % 1024)

/-- The flattened batch at a row. -/
theorem v0 (i : S2048x128.Idx) : val_main_v0 (F := Ideal) x0 i = row x0 (i 0) (i 1) := by
  have h0 : (i 0).val < 2048 := (i 0).isLt
  have h1 : (i 1).val < 128 := (i 1).isLt
  rw [val_main_v0_apply]
  unfold row
  refine Eq.trans ?_ (tok_of_lt x0 _ _ (Nat.mod_lt _ (by omega)) _).symm
  refine congrArg x0 (funext fun a => Fin.ext ?_)
  match a with
  | ⟨0, _⟩ => show ((i 0).val * 128 + (i 1).val) / 131072 = (i 0).val / 1024; omega
  | ⟨1, _⟩ => show ((i 0).val * 128 + (i 1).val) / 128 % 1024 = (i 0).val % 1024; omega
  | ⟨2, _⟩ => show ((i 0).val * 128 + (i 1).val) % 128 = (i 1).val; omega

/-- A matrix read through its index function at two coordinates. -/
theorem at2 {n m : ℕ} (x : (⟨2, ![n, m]⟩ : Shape).Idx → EReal) (j : (⟨2, ![n, m]⟩ : Shape).Idx) (a : Fin n) (b : Fin m)
    (ha : (j 0).val = a.val) (hb : (j 1).val = b.val) : x j = x (ix2 a b) := by
  refine congrArg x (funext fun d => Fin.ext ?_)
  match d with
  | ⟨0, _⟩ => exact ha
  | ⟨1, _⟩ => exact hb

/-- The projection. -/
theorem v2 (i : S2048x256.Idx) : val_main_v2 (F := Ideal) x0 x1 i = lin (fun a k => x1 (ix2 a k)) (row x0 (i 0)) (i 1) := by
  rw [val_main_v2_apply]
  refine Finset.sum_congr rfl fun k _ => ?_
  rw [v0, val_main_v1_apply, mul_comm]
  exact congrArg (· * _) (at2 x1 _ (i 1) k rfl rfl)

/-- The keys. -/
theorem v5 (i : S2048x1x128.Idx) : val_main_v5 (F := Ideal) x0 x1 i = key (weights x1 x2 x3 x4 x5) (row x0 (i 0)) (i 2) := by
  have h0 : (i 0).val < 2048 := (i 0).isLt
  have h1 : (i 1).val < 1 := (i 1).isLt
  have h2 : (i 2).val < 128 := (i 2).isLt
  rw [val_main_v5_apply, val_main_v3_apply, v2]
  unfold key
  refine congr (congrArg (fun r => lin _ (row x0 r)) (Fin.ext ?_)) (Fin.ext ?_)
  · show (((i 0).val * 1 + (i 1).val) * 128 + (i 2).val) / 128 = (i 0).val; omega
  · show (((i 0).val * 1 + (i 1).val) * 128 + (i 2).val) % 128 = (i 2).val; omega

/-- The values. -/
theorem v4 (i : S2048x128.Idx) : val_main_v4 (F := Ideal) x0 x1 i = value (weights x1 x2 x3 x4 x5) (row x0 (i 0)) (i 1) := by
  rw [val_main_v4_apply, v2]
  rfl

/-- The reference's quotient is the logistic function. -/
theorem sig (h : EReal) : Ideal.div (Ideal.ofBits .f32 0x3F800000#32) (Ideal.ofBits .f32 0x3F800000#32 + Ideal.exp (-h))
    = Ideal.logistic h := by
  rw [Ideal.ofBits_one_f32]; rfl

/-- The reference's second value of its activation: the logistic times one minus it. -/
theorem sig' {h l : EReal} (e : l = Ideal.logistic h) :
    l * (Ideal.ofBits .f32 0x3F800000#32 - l) = Ideal.logistic h * (1 - Ideal.logistic h) := by
  rw [e, Ideal.ofBits_one_f32]

/-- Layer 0 before its activation. -/
theorem v7 (i : S2048x1x128.Idx) : val_main_v7 (F := Ideal) x0 x1 x2 i = h0 (weights x1 x2 x3 x4 x5) (row x0 (i 0)) (i 2) := by
  rw [val_main_v7_apply]
  unfold h0 lin
  refine Finset.sum_congr rfl fun k _ => ?_
  rw [v5 x0 x1 x2 x3 x4 x5, val_main_v6_apply, mul_comm]
  exact congrArg (· * _) (at2 x2 _ (i 2) k rfl rfl)

/-- Layer 0's logistic. -/
theorem v8_2 (i : S2048x1x128.Idx) :
    val_main_v8_2 (F := Ideal) x0 x1 x2 i = Ideal.logistic (h0 (weights x1 x2 x3 x4 x5) (row x0 (i 0)) (i 2)) :=
  (sig _).trans (congrArg Ideal.logistic (v7 x0 x1 x2 x3 x4 x5 i))

/-- Layer 0's logistic times one minus it. -/
theorem v8_1 (i : S2048x1x128.Idx) : val_main_v8_1 (F := Ideal) x0 x1 x2 i
    = Ideal.logistic (h0 (weights x1 x2 x3 x4 x5) (row x0 (i 0)) (i 2)) * (1 - Ideal.logistic (h0 (weights x1 x2 x3 x4 x5) (row x0 (i 0)) (i 2))) :=
  sig' (v8_2 x0 x1 x2 x3 x4 x5 i)

/-- Layer 0 after its activation. -/
theorem v8_0 (i : S2048x1x128.Idx) : val_main_v8_0 (F := Ideal) x0 x1 x2 i = a0 (weights x1 x2 x3 x4 x5) (row x0 (i 0)) (i 2) :=
  congr (congrArg (· * ·) (v7 x0 x1 x2 x3 x4 x5 i)) (v8_2 x0 x1 x2 x3 x4 x5 i)

/-- Layer 1 before its activation. -/
theorem v10 (i : S2048x1x128.Idx) : val_main_v10 (F := Ideal) x0 x1 x2 x3 i = h1 (weights x1 x2 x3 x4 x5) (row x0 (i 0)) (i 2) := by
  rw [val_main_v10_apply]
  unfold h1 lin
  refine Finset.sum_congr rfl fun k _ => ?_
  rw [v8_0 x0 x1 x2 x3 x4 x5, val_main_v9_apply, mul_comm]
  exact congrArg (· * _) (at2 x3 _ (i 2) k rfl rfl)

/-- Layer 1's logistic. -/
theorem v11_2 (i : S2048x1x128.Idx) :
    val_main_v11_2 (F := Ideal) x0 x1 x2 x3 i = Ideal.logistic (h1 (weights x1 x2 x3 x4 x5) (row x0 (i 0)) (i 2)) :=
  (sig _).trans (congrArg Ideal.logistic (v10 x0 x1 x2 x3 x4 x5 i))

/-- Layer 1's logistic times one minus it. -/
theorem v11_1 (i : S2048x1x128.Idx) : val_main_v11_1 (F := Ideal) x0 x1 x2 x3 i
    = Ideal.logistic (h1 (weights x1 x2 x3 x4 x5) (row x0 (i 0)) (i 2)) * (1 - Ideal.logistic (h1 (weights x1 x2 x3 x4 x5) (row x0 (i 0)) (i 2))) :=
  sig' (v11_2 x0 x1 x2 x3 x4 x5 i)

/-- Layer 1 after its activation. -/
theorem v11_0 (i : S2048x1x128.Idx) : val_main_v11_0 (F := Ideal) x0 x1 x2 x3 i = a1 (weights x1 x2 x3 x4 x5) (row x0 (i 0)) (i 2) :=
  congr (congrArg (· * ·) (v10 x0 x1 x2 x3 x4 x5 i)) (v11_2 x0 x1 x2 x3 x4 x5 i)

/-- Layer 2 before its activation. -/
theorem v13 (i : S2048x1x128.Idx) : val_main_v13 (F := Ideal) x0 x1 x2 x3 x4 i = h2 (weights x1 x2 x3 x4 x5) (row x0 (i 0)) (i 2) := by
  rw [val_main_v13_apply]
  unfold h2 lin
  refine Finset.sum_congr rfl fun k _ => ?_
  rw [v11_0 x0 x1 x2 x3 x4 x5, val_main_v12_apply, mul_comm]
  exact congrArg (· * _) (at2 x4 _ (i 2) k rfl rfl)

/-- Layer 2's logistic. -/
theorem v14_2 (i : S2048x1x128.Idx) :
    val_main_v14_2 (F := Ideal) x0 x1 x2 x3 x4 i = Ideal.logistic (h2 (weights x1 x2 x3 x4 x5) (row x0 (i 0)) (i 2)) :=
  (sig _).trans (congrArg Ideal.logistic (v13 x0 x1 x2 x3 x4 x5 i))

/-- Layer 2's logistic times one minus it. -/
theorem v14_1 (i : S2048x1x128.Idx) : val_main_v14_1 (F := Ideal) x0 x1 x2 x3 x4 i
    = Ideal.logistic (h2 (weights x1 x2 x3 x4 x5) (row x0 (i 0)) (i 2)) * (1 - Ideal.logistic (h2 (weights x1 x2 x3 x4 x5) (row x0 (i 0)) (i 2))) :=
  sig' (v14_2 x0 x1 x2 x3 x4 x5 i)

/-- Layer 2 after its activation. -/
theorem v14_0 (i : S2048x1x128.Idx) : val_main_v14_0 (F := Ideal) x0 x1 x2 x3 x4 i = a2 (weights x1 x2 x3 x4 x5) (row x0 (i 0)) (i 2) :=
  congr (congrArg (· * ·) (v13 x0 x1 x2 x3 x4 x5 i)) (v14_2 x0 x1 x2 x3 x4 x5 i)

/-- The error. -/
theorem v18 (i : S2048x128.Idx) : val_main_v18 (F := Ideal) x0 x1 x2 x3 x4 x5 i = err (weights x1 x2 x3 x4 x5) (row x0 (i 0)) (i 1) := by
  have h0 : (i 0).val < 2048 := (i 0).isLt
  have h1 : (i 1).val < 128 := (i 1).isLt
  refine congr (congrArg (· - ·) ?_) (v4 x0 x1 x2 x3 x4 x5 i)
  rw [val_main_v17_apply, val_main_v16_apply]
  unfold lin
  refine Finset.sum_congr rfl fun k _ => ?_
  rw [v14_0 x0 x1 x2 x3 x4 x5, val_main_v15_apply, mul_comm]
  refine congr (congrArg (· * ·) (at2 x5 _ (i 1) k ?_ rfl)) (congrArg (fun r => a2 (weights x1 x2 x3 x4 x5) (row x0 r) k) (Fin.ext ?_))
  · show ((i 0).val * 128 + (i 1).val) % 128 = (i 1).val; omega
  · show ((i 0).val * 128 + (i 1).val) / 128 = (i 0).val; omega

/-- The loss. -/
theorem v24 (i : S2048.Idx) : val_main_v24 (F := Ideal) x0 x1 x2 x3 x4 x5 i = loss (weights x1 x2 x3 x4 x5) (row x0 (i 0)) := by
  rw [val_main_v24_apply]
  refine congrArg (fun y => Ideal.div y (Ideal.ofBits .f32 0x43000000#32)) ?_
  rw [val_main_v22_apply]
  refine (congrArg (· + _) (Ideal.ofBits_zero_f32)).trans ((zero_add _).trans ?_)
  refine Finset.sum_congr rfl fun k _ => ?_
  exact congr (congrArg (· * ·) (v18 x0 x1 x2 x3 x4 x5 _)) (v18 x0 x1 x2 x3 x4 x5 _)

/-- The gradient at the output. -/
theorem v30 (i : S2048x1x128.Idx) : val_main_v30 (F := Ideal) x0 x1 x2 x3 x4 x5 i = d3 (weights x1 x2 x3 x4 x5) (row x0 (i 0)) (i 2) := by
  have h0 : (i 0).val < 2048 := (i 0).isLt
  have h1 : (i 1).val < 1 := (i 1).isLt
  have h2 : (i 2).val < 128 := (i 2).isLt
  rw [val_main_v30_apply, val_main_v29_apply, val_main_v28_apply, val_main_v27_apply, val_main_v26_apply]
  refine (congrArg (· * _) (congrArg (fun y => Ideal.div y (Ideal.ofBits .f32 0x43000000#32)) Ideal.ofBits_one_f32)).trans ?_
  refine (scale _).trans ?_
  unfold d3
  refine congrArg (_ * ·) ?_
  rw [v18]
  refine congr (congrArg (fun r => err (weights x1 x2 x3 x4 x5) (row x0 r)) (Fin.ext ?_)) (Fin.ext ?_)
  · show (((i 0).val * 1 + (i 1).val) * 128 + (i 2).val) / 128 = (i 0).val; omega
  · show (((i 0).val * 1 + (i 1).val) * 128 + (i 2).val) % 128 = (i 2).val; omega

section
variable (hW : Weights.Finite (weights x1 x2 x3 x4 x5)) (hx : ∀ r k, Fin' (row x0 r k))
include hW hx

/-- The gradient at layer 2, before its activation. -/
theorem v35 (i : S2048x1x128.Idx) : val_main_v35 (F := Ideal) x0 x1 x2 x3 x4 x5 i = d2 (weights x1 x2 x3 x4 x5) (row x0 (i 0)) (i 2) := by
  have e : val_main_v33 (F := Ideal) x0 x1 x2 x3 x4 x5 i = back ((weights x1 x2 x3 x4 x5)).w3 (d3 (weights x1 x2 x3 x4 x5) (row x0 (i 0))) (i 2) := by
    rw [val_main_v33_apply]
    unfold back
    refine Finset.sum_congr rfl fun k _ => ?_
    rw [v30 x0 x1 x2 x3 x4 x5, val_main_v15_apply, mul_comm]
    exact congrArg (· * _) (at2 x5 _ k (i 2) rfl rfl)
  refine Eq.trans ?_ (dsilu_split (fin_h2 hW (hx (i 0)) (i 2)) (fin_b3 hW (hx (i 0)) (i 2)))
  exact congr (congrArg (· + ·) (congr (congrArg (· * ·) e) (v14_2 x0 x1 x2 x3 x4 x5 i)))
    (congr (congrArg (· * ·) (congr (congrArg (· * ·) (v13 x0 x1 x2 x3 x4 x5 i)) e)) (v14_1 x0 x1 x2 x3 x4 x5 i))

/-- The gradient at layer 1, before its activation. -/
theorem v40 (i : S2048x1x128.Idx) : val_main_v40 (F := Ideal) x0 x1 x2 x3 x4 x5 i = d1 (weights x1 x2 x3 x4 x5) (row x0 (i 0)) (i 2) := by
  have e : val_main_v38 (F := Ideal) x0 x1 x2 x3 x4 x5 i = back ((weights x1 x2 x3 x4 x5)).w2 (d2 (weights x1 x2 x3 x4 x5) (row x0 (i 0))) (i 2) := by
    rw [val_main_v38_apply]
    unfold back
    refine Finset.sum_congr rfl fun k _ => ?_
    rw [v35 x0 x1 x2 x3 x4 x5 hW hx, val_main_v12_apply, mul_comm]
    exact congrArg (· * _) (at2 x4 _ k (i 2) rfl rfl)
  refine Eq.trans ?_ (dsilu_split (fin_h1 hW (hx (i 0)) (i 2)) (fin_b2 hW (hx (i 0)) (i 2)))
  exact congr (congrArg (· + ·) (congr (congrArg (· * ·) e) (v11_2 x0 x1 x2 x3 x4 x5 i)))
    (congr (congrArg (· * ·) (congr (congrArg (· * ·) (v10 x0 x1 x2 x3 x4 x5 i)) e)) (v11_1 x0 x1 x2 x3 x4 x5 i))

/-- The gradient at layer 0, before its activation. -/
theorem v45 (i : S2048x1x128.Idx) : val_main_v45 (F := Ideal) x0 x1 x2 x3 x4 x5 i = d0 (weights x1 x2 x3 x4 x5) (row x0 (i 0)) (i 2) := by
  have e : val_main_v43 (F := Ideal) x0 x1 x2 x3 x4 x5 i = back ((weights x1 x2 x3 x4 x5)).w1 (d1 (weights x1 x2 x3 x4 x5) (row x0 (i 0))) (i 2) := by
    rw [val_main_v43_apply]
    unfold back
    refine Finset.sum_congr rfl fun k _ => ?_
    rw [v40 x0 x1 x2 x3 x4 x5 hW hx, val_main_v9_apply, mul_comm]
    exact congrArg (· * _) (at2 x3 _ k (i 2) rfl rfl)
  refine Eq.trans ?_ (dsilu_split (fin_h0 hW (hx (i 0)) (i 2)) (fin_b1 hW (hx (i 0)) (i 2)))
  exact congr (congrArg (· + ·) (congr (congrArg (· * ·) e) (v8_2 x0 x1 x2 x3 x4 x5 i)))
    (congr (congrArg (· * ·) (congr (congrArg (· * ·) (v7 x0 x1 x2 x3 x4 x5 i)) e)) (v8_1 x0 x1 x2 x3 x4 x5 i))

omit hW hx in
/-- The gradient of layer 3's matrix. -/
theorem v34 (i : S2048x128x128.Idx) :
    val_main_v34 (F := Ideal) x0 x1 x2 x3 x4 x5 i = grad (weights x1 x2 x3 x4 x5) (row x0 (i 0)) 3 (i 1) (i 2) := by
  rw [val_main_v34_apply, val_main_v32_apply, val_main_v31_apply, Fin.sum_univ_one]
  exact congr (congrArg (· * ·) (v30 x0 x1 x2 x3 x4 x5 _)) (v14_0 x0 x1 x2 x3 x4 x5 _)

/-- The gradient of layer 2's matrix. -/
theorem v39 (i : S2048x128x128.Idx) :
    val_main_v39 (F := Ideal) x0 x1 x2 x3 x4 x5 i = grad (weights x1 x2 x3 x4 x5) (row x0 (i 0)) 2 (i 1) (i 2) := by
  rw [val_main_v39_apply, val_main_v37_apply, val_main_v36_apply, Fin.sum_univ_one]
  exact congr (congrArg (· * ·) (v35 x0 x1 x2 x3 x4 x5 hW hx _)) (v11_0 x0 x1 x2 x3 x4 x5 _)

/-- The gradient of layer 1's matrix. -/
theorem v44 (i : S2048x128x128.Idx) :
    val_main_v44 (F := Ideal) x0 x1 x2 x3 x4 x5 i = grad (weights x1 x2 x3 x4 x5) (row x0 (i 0)) 1 (i 1) (i 2) := by
  rw [val_main_v44_apply, val_main_v42_apply, val_main_v41_apply, Fin.sum_univ_one]
  exact congr (congrArg (· * ·) (v40 x0 x1 x2 x3 x4 x5 hW hx _)) (v8_0 x0 x1 x2 x3 x4 x5 _)

/-- The gradient of layer 0's matrix. -/
theorem v48 (i : S2048x128x128.Idx) :
    val_main_v48 (F := Ideal) x0 x1 x2 x3 x4 x5 i = grad (weights x1 x2 x3 x4 x5) (row x0 (i 0)) 0 (i 1) (i 2) := by
  rw [val_main_v48_apply, val_main_v47_apply, val_main_v46_apply, Fin.sum_univ_one]
  exact congr (congrArg (· * ·) (v45 x0 x1 x2 x3 x4 x5 hW hx _)) (v5 x0 x1 x2 x3 x4 x5 _)

end

end Cert.RefTokens
-- ==== Proof.RefSums.lean ====
/-
  The reference's running sums over a sequence as sums over the tokens so far, and its three results: the running sums of
  the four matrices' gradients, the matrices plus the whole sums, and the losses.
-/
module

public import proofs.«01_k».proof.Proof.RefTokens
public import Idealize.ShloMosaic.Lib.Pointwise

@[expose] public section

set_option maxRecDepth 16384

noncomputable section

namespace Cert.RefSums

open Idealize.ShloMosaic
open Cert.ReferenceIdeal Cert.ReferenceIdeal.Read
open Cert.Net Cert.RefTokens
open scoped BigOperators

/-- A left fold of additions is the start plus the sum. -/
theorem foldl_add {ι : Type} (l : List ι) (f : ι → EReal) (b : EReal) :
    l.foldl (fun r n => r + f n) b = b + (l.map f).sum := by
  induction l generalizing b with
  | nil => simp
  | cons n l ih => rw [List.foldl_cons, ih, List.map_cons, List.sum_cons, add_assoc]

/-- The terms of a window of 1024 that ends at position `m`, the positions before the start reading zero, add up to the
sum over the positions up to `m`. -/
theorem window_range (g : ℕ → EReal) (m : ℕ) (hm : m < 1024) :
    (∑ n ∈ Finset.range 1024, if 1023 ≤ m + n then g (m + n - 1023) else 0) = ∑ q ∈ Finset.range (m + 1), g q := by
  rw [show 1024 = (1023 - m) + (m + 1) by omega, Finset.sum_range_add, Finset.sum_eq_zero, zero_add]
  · refine Finset.sum_congr rfl fun q _ => ?_
    rw [if_pos (by omega)]
    exact congrArg g (by omega)
  · intro n hn
    rw [Finset.mem_range] at hn
    exact if_neg (by omega)

/-- The running sum's window. -/
abbrev Win : Shape := ⟨4, ![1, 1024, 1, 1]⟩

/-- A window's position number is its coordinate on the summed axis. -/
theorem win_coord (n : Fin Win.numel) :
    (Win.rowMajor.symm n 0).val = 0 ∧ (Win.rowMajor.symm n 1).val = n.val ∧ (Win.rowMajor.symm n 2).val = 0
      ∧ (Win.rowMajor.symm n 3).val = 0 := by
  have e : (Win.rowMajor (Win.rowMajor.symm n)).val = n.val := by rw [Equiv.apply_symm_apply]
  rw [Shape.rowMajor_val_four] at e
  have h0 : (Win.rowMajor.symm n 0).val < 1 := (Win.rowMajor.symm n 0).isLt
  have h2 : (Win.rowMajor.symm n 2).val < 1 := (Win.rowMajor.symm n 2).isLt
  have h3 : (Win.rowMajor.symm n 3).val < 1 := (Win.rowMajor.symm n 3).isLt
  have e' : (((Win.rowMajor.symm n 0).val * 1024 + (Win.rowMajor.symm n 1).val) * 1 + (Win.rowMajor.symm n 2).val) * 1
    + (Win.rowMajor.symm n 3).val = n.val := e
  omega

/-- What a window position contributes: the operand's element there, or zero outside the operand. -/
def term {s t : Shape} (window strides lo hi : Fin s.rank → Nat) (h : s.ReduceWindows window strides lo hi t)
    (x : s.Idx → EReal) (j : t.Idx) (n : Fin (Shape.mk s.rank window).numel) : EReal :=
  let p : Fin s.rank → Nat := fun a => (j (a.cast h.1.symm)).val * strides a + ((Shape.mk s.rank window).rowMajor.symm n a).val
  if hin : ∀ a, lo a ≤ p a ∧ p a - lo a < s.size a then x (fun a => ⟨p a - lo a, (hin a).2⟩) else 0

/-- A window sum from zero is the sum of the contributions. -/
theorem window_sum {s t : Shape} (window strides lo hi : Fin s.rank → Nat) (h : s.ReduceWindows window strides lo hi t)
    (x : s.Idx → EReal) (j : t.Idx) :
    Ideal.hostReduceWindowAdd window strides lo hi h x 0 j = ∑ n, term window strides lo hi h x j n := by
  rw [Fin.sum_univ_def, ← zero_add (List.sum _), ← foldl_add]
  unfold Ideal.hostReduceWindowAdd Host.reduceWindow term
  refine congrArg (fun f => List.foldl f (0 : EReal) _) (funext fun r => funext fun n => congrArg (r + ·) ?_)
  dsimp only
  split <;> rfl

/-- Contributions of 1024 positions ending at `m`, zero before the start, add up to the sum over the positions up to `m`. -/
theorem sum_terms (k : ℕ) (hk : k = 1024) (f : Fin k → EReal) (g : ℕ → EReal) (m : ℕ) (hm : m < 1024)
    (hf : ∀ n : Fin k, f n = if 1023 ≤ m + n.val then g (m + n.val - 1023) else 0) :
    ∑ n, f n = ∑ q ∈ Finset.range (m + 1), g q := by
  rw [Finset.sum_congr rfl fun n _ => hf n,
    Fin.sum_univ_eq_sum_range (fun n => if 1023 ≤ m + n then g (m + n - 1023) else 0), hk, window_range g m hm]

/-- A contribution is the element that many positions after the start of the window, if that is not before the start of
the sequence. -/
theorem term_eq (x : S2x1024x128x128.Idx → EReal) (j : S2x1024x128x128.Idx) (g : ℕ → EReal)
    (hg : ∀ i : S2x1024x128x128.Idx, (i 0).val = (j 0).val → (i 2).val = (j 2).val → (i 3).val = (j 3).val →
      x i = g (i 1).val) (h : S2x1024x128x128.ReduceWindows (![1, 1024, 1, 1] : Fin 4 → Nat)
      ![1, 1, 1, 1] ![0, 1023, 0, 0] ![0, 0, 0, 0] S2x1024x128x128) (n : Fin Win.numel) (hlt : n.val < 1024) :
    term _ _ _ _ h x j n = if 1023 ≤ (j 1).val + n.val then g ((j 1).val + n.val - 1023) else 0 := by
  have j0 : (j 0).val < 2 := (j 0).isLt
  have j1 : (j 1).val < 1024 := (j 1).isLt
  have j2 : (j 2).val < 128 := (j 2).isLt
  have j3 : (j 3).val < 128 := (j 3).isLt
  obtain ⟨w0, w1, w2, w3⟩ := win_coord n
  unfold term
  dsimp only
  by_cases hc : 1023 ≤ (j 1).val + n.val
  · rw [if_pos hc, dif_pos]
    · refine (hg _ ?_ ?_ ?_).trans (congrArg g ?_)
      · show (j 0).val * 1 + (Win.rowMajor.symm n 0).val - 0 = _; omega
      · show (j 2).val * 1 + (Win.rowMajor.symm n 2).val - 0 = _; omega
      · show (j 3).val * 1 + (Win.rowMajor.symm n 3).val - 0 = _; omega
      · show (j 1).val * 1 + (Win.rowMajor.symm n 1).val - 1023 = _; omega
    · intro a
      match a with
      | ⟨0, _⟩ =>
        show 0 ≤ (j 0).val * 1 + (Win.rowMajor.symm n 0).val ∧ (j 0).val * 1 + (Win.rowMajor.symm n 0).val - 0 < 2; omega
      | ⟨1, _⟩ =>
        show 1023 ≤ (j 1).val * 1 + (Win.rowMajor.symm n 1).val ∧ (j 1).val * 1 + (Win.rowMajor.symm n 1).val - 1023 < 1024
        omega
      | ⟨2, _⟩ =>
        show 0 ≤ (j 2).val * 1 + (Win.rowMajor.symm n 2).val ∧ (j 2).val * 1 + (Win.rowMajor.symm n 2).val - 0 < 128; omega
      | ⟨3, _⟩ =>
        show 0 ≤ (j 3).val * 1 + (Win.rowMajor.symm n 3).val ∧ (j 3).val * 1 + (Win.rowMajor.symm n 3).val - 0 < 128; omega
  · rw [if_neg hc, dif_neg]
    intro hin
    have h1 : 1023 ≤ (j 1).val * 1 + (Win.rowMajor.symm n 1).val := (hin 1).1
    omega

/-- The window has 1024 positions. -/
theorem win_numel : Win.numel = 1024 := by simp [Shape.numel, Fin.prod_univ_succ]

/-- The running sum at an index is the sum over the positions so far. -/
theorem cumsum (x : S2x1024x128x128.Idx → EReal) (z : S_.Idx → EReal) (hu : 0 < S_.numel) (hz : z (Shape.Idx.first hu) = 0)
    (j : S2x1024x128x128.Idx) (g : ℕ → EReal)
    (hg : ∀ i : S2x1024x128x128.Idx, (i 0).val = (j 0).val → (i 2).val = (j 2).val → (i 3).val = (j 3).val →
      x i = g (i 1).val)
    (h : S2x1024x128x128.ReduceWindows (![1, 1024, 1, 1] : Fin 4 → Nat) ![1, 1, 1, 1] ![0, 1023, 0, 0] ![0, 0, 0, 0]
      S2x1024x128x128) :
    Host.reduceWindowAdd (F := Ideal) (φ := .f32) ![1, 1024, 1, 1] ![1, 1, 1, 1] ![0, 1023, 0, 0] ![0, 0, 0, 0] x z
      h hu j = ∑ q ∈ Finset.range ((j 1).val + 1), g q := by
  have j1 : (j 1).val < 1024 := (j 1).isLt
  unfold Host.reduceWindowAdd
  rw [Ideal.hostReduceWindowAdd_def, hz, window_sum]
  exact sum_terms _ win_numel _ g (j 1).val j1 fun n => term_eq x j g hg h n (lt_of_lt_of_eq n.isLt win_numel)

/-- Four unit slabs laid end to end, read at an index: the slab the axis coordinate names. -/
theorem cat4 {s t : Shape} (a : Fin t.rank) (y : Fin 4 → s.Idx → EReal)
    (h : Shape.Concatenates ([⟨s, y 0⟩, ⟨s, y 1⟩, ⟨s, y 2⟩, ⟨s, y 3⟩].map fun p : (s : Shape) × (s.Idx → EReal) => p.1) t a)
    (j : t.Idx) (k : Fin 4) (hr : s.rank = t.rank) (h1 : s.size (a.cast hr.symm) = 1) (hk : (j a).val = k.val) (i : s.Idx)
    (hi : ∀ b : Fin s.rank, b.cast hr ≠ a → (i b).val = (j (b.cast hr)).val) :
    concatenate t a [⟨s, y 0⟩, ⟨s, y 1⟩, ⟨s, y 2⟩, ⟨s, y 3⟩] h j = y k i := by
  have hi0 : (i (a.cast hr.symm)).val = 0 := by have := (i (a.cast hr.symm)).isLt; omega
  refine concatenate_apply_piece a _ h j k.val (by simp) s (y k) ?_ hr k.val ?_ i hi (by omega)
  · match k with
    | 0 => rfl
    | 1 => rfl
    | 2 => rfl
    | 3 => rfl
  · match k with
    | 0 => rfl
    | 1 => simp [hr, h1]
    | 2 => simp [hr, h1]
    | 3 => simp [hr, h1]

variable (x0 : (⟨S2x1024x128, .f32⟩ : BufTy).Contents (Elt Ideal)) (x1 : (⟨S256x128, .f32⟩ : BufTy).Contents (Elt Ideal))
  (x2 x3 x4 x5 : (⟨S128x128, .f32⟩ : BufTy).Contents (Elt Ideal))

/-- A matrix's gradients over the flattened batch, reshaped to sequences, are read at a sequence and a position. -/
theorem split (l : Fin 4) (i : S2x1024x128x128.Idx) (r a c : ℕ) (hr : r < 2048) (ha : a < 128) (hc : c < 128)
    (er : r = (((((i 0).val * 1024 + (i 1).val) * 128 + (i 2).val) * 128 + (i 3).val)) / 16384)
    (ea : a = (((((i 0).val * 1024 + (i 1).val) * 128 + (i 2).val) * 128 + (i 3).val)) / 128 % 128)
    (ec : c = (((((i 0).val * 1024 + (i 1).val) * 128 + (i 2).val) * 128 + (i 3).val)) % 128) :
    grad (weights x1 x2 x3 x4 x5) (row x0 ⟨r, hr⟩) l ⟨a, ha⟩ ⟨c, hc⟩ = grad (weights x1 x2 x3 x4 x5) (tok x0 (i 0) (i 1).val) l (i 2) (i 3) := by
  have i0 : (i 0).val < 2 := (i 0).isLt
  have i1 : (i 1).val < 1024 := (i 1).isLt
  have i2 : (i 2).val < 128 := (i 2).isLt
  have i3 : (i 3).val < 128 := (i 3).isLt
  have hr' : r = (i 0).val * 1024 + (i 1).val := by omega
  have e1 : row x0 ⟨r, hr⟩ = tok x0 (i 0) (i 1).val := by
    unfold row
    refine congr (congrArg (tok x0) (Fin.ext ?_)) ?_
    · show r / 1024 = (i 0).val; omega
    · show r % 1024 = (i 1).val; omega
  have e2 : (⟨a, ha⟩ : Fin 128) = i 2 := Fin.ext (by show a = (i 2).val; omega)
  have e3 : (⟨c, hc⟩ : Fin 128) = i 3 := Fin.ext (by show c = (i 3).val; omega)
  rw [e1, e2, e3]

section
variable (hW : Weights.Finite (weights x1 x2 x3 x4 x5)) (hx : ∀ r k, Fin' (row x0 r k))
include hW hx

/-- Matrix 0's running sum of gradients. -/
theorem cum0 (j : S2x1024x128x128.Idx) : val_main_v50 (F := Ideal) x0 x1 x2 x3 x4 x5 j
    = run (weights x1 x2 x3 x4 x5) (tok x0 (j 0)) 0 ((j 1).val + 1) (j 2) (j 3) :=
  cumsum _ _ _ Ideal.ofBits_zero_f32 j (fun q => grad (weights x1 x2 x3 x4 x5) (tok x0 (j 0) q) 0 (j 2) (j 3)) (fun i e0 e2 e3 => by
    rw [val_main_v49_apply, v48 x0 x1 x2 x3 x4 x5 hW hx]
    refine (split x0 x1 x2 x3 x4 x5 0 i _ _ _ _ _ _ rfl rfl rfl).trans ?_
    rw [show i 0 = j 0 from Fin.ext e0, show i 2 = j 2 from Fin.ext e2, show i 3 = j 3 from Fin.ext e3]) _

/-- Matrix 0 plus the whole sum of its gradients. -/
theorem mem0 (j : S2x128x128.Idx) : val_main_v61 (F := Ideal) x0 x1 x2 x3 x4 x5 j
    = mat (weights x1 x2 x3 x4 x5) 0 (j 1) (j 2) + run (weights x1 x2 x3 x4 x5) (tok x0 (j 0)) 0 1024 (j 1) (j 2) := by
  have j0 : (j 0).val < 2 := (j 0).isLt
  have j1 : (j 1).val < 128 := (j 1).isLt
  have j2 : (j 2).val < 128 := (j 2).isLt
  rw [val_main_v61_apply, val_main_v60_apply, val_main_v59_apply, val_main_v58_apply, val_main_v57_apply,
    cum0 x0 x1 x2 x3 x4 x5 hW hx]
  refine congr (congrArg (· + ·) (at2 x2 _ (j 1) (j 2) rfl rfl)) ?_
  refine congr (congr (congrArg (fun b => run (weights x1 x2 x3 x4 x5) (tok x0 b) 0 1024) (Fin.ext ?_)) (Fin.ext ?_)) (Fin.ext ?_)
  · show (((j 0).val * 128 + (j 1).val) * 128 + (j 2).val) / 16384 = (j 0).val; omega
  · show (((j 0).val * 128 + (j 1).val) * 128 + (j 2).val) / 128 % 128 = (j 1).val; omega
  · show (((j 0).val * 128 + (j 1).val) * 128 + (j 2).val) % 128 = (j 2).val; omega

/-- Matrix 1's running sum of gradients. -/
theorem cum1 (j : S2x1024x128x128.Idx) : val_main_v52 (F := Ideal) x0 x1 x2 x3 x4 x5 j
    = run (weights x1 x2 x3 x4 x5) (tok x0 (j 0)) 1 ((j 1).val + 1) (j 2) (j 3) :=
  cumsum _ _ _ Ideal.ofBits_zero_f32 j (fun q => grad (weights x1 x2 x3 x4 x5) (tok x0 (j 0) q) 1 (j 2) (j 3)) (fun i e0 e2 e3 => by
    rw [val_main_v51_apply, v44 x0 x1 x2 x3 x4 x5 hW hx]
    refine (split x0 x1 x2 x3 x4 x5 1 i _ _ _ _ _ _ rfl rfl rfl).trans ?_
    rw [show i 0 = j 0 from Fin.ext e0, show i 2 = j 2 from Fin.ext e2, show i 3 = j 3 from Fin.ext e3]) _

/-- Matrix 1 plus the whole sum of its gradients. -/
theorem mem1 (j : S2x128x128.Idx) : val_main_v66 (F := Ideal) x0 x1 x2 x3 x4 x5 j
    = mat (weights x1 x2 x3 x4 x5) 1 (j 1) (j 2) + run (weights x1 x2 x3 x4 x5) (tok x0 (j 0)) 1 1024 (j 1) (j 2) := by
  have j0 : (j 0).val < 2 := (j 0).isLt
  have j1 : (j 1).val < 128 := (j 1).isLt
  have j2 : (j 2).val < 128 := (j 2).isLt
  rw [val_main_v66_apply, val_main_v65_apply, val_main_v64_apply, val_main_v63_apply, val_main_v62_apply,
    cum1 x0 x1 x2 x3 x4 x5 hW hx]
  refine congr (congrArg (· + ·) (at2 x3 _ (j 1) (j 2) rfl rfl)) ?_
  refine congr (congr (congrArg (fun b => run (weights x1 x2 x3 x4 x5) (tok x0 b) 1 1024) (Fin.ext ?_)) (Fin.ext ?_)) (Fin.ext ?_)
  · show (((j 0).val * 128 + (j 1).val) * 128 + (j 2).val) / 16384 = (j 0).val; omega
  · show (((j 0).val * 128 + (j 1).val) * 128 + (j 2).val) / 128 % 128 = (j 1).val; omega
  · show (((j 0).val * 128 + (j 1).val) * 128 + (j 2).val) % 128 = (j 2).val; omega

/-- Matrix 2's running sum of gradients. -/
theorem cum2 (j : S2x1024x128x128.Idx) : val_main_v54 (F := Ideal) x0 x1 x2 x3 x4 x5 j
    = run (weights x1 x2 x3 x4 x5) (tok x0 (j 0)) 2 ((j 1).val + 1) (j 2) (j 3) :=
  cumsum _ _ _ Ideal.ofBits_zero_f32 j (fun q => grad (weights x1 x2 x3 x4 x5) (tok x0 (j 0) q) 2 (j 2) (j 3)) (fun i e0 e2 e3 => by
    rw [val_main_v53_apply, v39 x0 x1 x2 x3 x4 x5 hW hx]
    refine (split x0 x1 x2 x3 x4 x5 2 i _ _ _ _ _ _ rfl rfl rfl).trans ?_
    rw [show i 0 = j 0 from Fin.ext e0, show i 2 = j 2 from Fin.ext e2, show i 3 = j 3 from Fin.ext e3]) _

/-- Matrix 2 plus the whole sum of its gradients. -/
theorem mem2 (j : S2x128x128.Idx) : val_main_v71 (F := Ideal) x0 x1 x2 x3 x4 x5 j
    = mat (weights x1 x2 x3 x4 x5) 2 (j 1) (j 2) + run (weights x1 x2 x3 x4 x5) (tok x0 (j 0)) 2 1024 (j 1) (j 2) := by
  have j0 : (j 0).val < 2 := (j 0).isLt
  have j1 : (j 1).val < 128 := (j 1).isLt
  have j2 : (j 2).val < 128 := (j 2).isLt
  rw [val_main_v71_apply, val_main_v70_apply, val_main_v69_apply, val_main_v68_apply, val_main_v67_apply,
    cum2 x0 x1 x2 x3 x4 x5 hW hx]
  refine congr (congrArg (· + ·) (at2 x4 _ (j 1) (j 2) rfl rfl)) ?_
  refine congr (congr (congrArg (fun b => run (weights x1 x2 x3 x4 x5) (tok x0 b) 2 1024) (Fin.ext ?_)) (Fin.ext ?_)) (Fin.ext ?_)
  · show (((j 0).val * 128 + (j 1).val) * 128 + (j 2).val) / 16384 = (j 0).val; omega
  · show (((j 0).val * 128 + (j 1).val) * 128 + (j 2).val) / 128 % 128 = (j 1).val; omega
  · show (((j 0).val * 128 + (j 1).val) * 128 + (j 2).val) % 128 = (j 2).val; omega

omit hW hx in
/-- Matrix 3's running sum of gradients. -/
theorem cum3 (j : S2x1024x128x128.Idx) : val_main_v56 (F := Ideal) x0 x1 x2 x3 x4 x5 j
    = run (weights x1 x2 x3 x4 x5) (tok x0 (j 0)) 3 ((j 1).val + 1) (j 2) (j 3) :=
  cumsum _ _ _ Ideal.ofBits_zero_f32 j (fun q => grad (weights x1 x2 x3 x4 x5) (tok x0 (j 0) q) 3 (j 2) (j 3)) (fun i e0 e2 e3 => by
    rw [val_main_v55_apply, v34 x0 x1 x2 x3 x4 x5]
    refine (split x0 x1 x2 x3 x4 x5 3 i _ _ _ _ _ _ rfl rfl rfl).trans ?_
    rw [show i 0 = j 0 from Fin.ext e0, show i 2 = j 2 from Fin.ext e2, show i 3 = j 3 from Fin.ext e3]) _

omit hW hx in
/-- Matrix 3 plus the whole sum of its gradients. -/
theorem mem3 (j : S2x128x128.Idx) : val_main_v76 (F := Ideal) x0 x1 x2 x3 x4 x5 j
    = mat (weights x1 x2 x3 x4 x5) 3 (j 1) (j 2) + run (weights x1 x2 x3 x4 x5) (tok x0 (j 0)) 3 1024 (j 1) (j 2) := by
  have j0 : (j 0).val < 2 := (j 0).isLt
  have j1 : (j 1).val < 128 := (j 1).isLt
  have j2 : (j 2).val < 128 := (j 2).isLt
  rw [val_main_v76_apply, val_main_v75_apply, val_main_v74_apply, val_main_v73_apply, val_main_v72_apply,
    cum3 x0 x1 x2 x3 x4 x5]
  refine congr (congrArg (· + ·) (at2 x5 _ (j 1) (j 2) rfl rfl)) ?_
  refine congr (congr (congrArg (fun b => run (weights x1 x2 x3 x4 x5) (tok x0 b) 3 1024) (Fin.ext ?_)) (Fin.ext ?_)) (Fin.ext ?_)
  · show (((j 0).val * 128 + (j 1).val) * 128 + (j 2).val) / 16384 = (j 0).val; omega
  · show (((j 0).val * 128 + (j 1).val) * 128 + (j 2).val) / 128 % 128 = (j 1).val; omega
  · show (((j 0).val * 128 + (j 1).val) * 128 + (j 2).val) % 128 = (j 2).val; omega

/-- The four slabs of the first result. -/
def slab0 (l : Fin 4) : S1x2x1024x128x128.Idx → EReal := match l with
  | 0 => val_main_v77 (F := Ideal) x0 x1 x2 x3 x4 x5
  | 1 => val_main_v78 (F := Ideal) x0 x1 x2 x3 x4 x5
  | 2 => val_main_v79 (F := Ideal) x0 x1 x2 x3 x4 x5
  | 3 => val_main_v80 (F := Ideal) x0 x1 x2 x3 x4 x5

/-- Each of the four slabs read at an index. -/
theorem slab0_eq (l : Fin 4) (i : S1x2x1024x128x128.Idx) : slab0 x0 x1 x2 x3 x4 x5 l i
    = run (weights x1 x2 x3 x4 x5) (tok x0 (i 1)) l ((i 2).val + 1) (i 3) (i 4) := match l with
  | 0 => (val_main_v77_apply ..).trans (cum0 x0 x1 x2 x3 x4 x5 hW hx _)
  | 1 => (val_main_v78_apply ..).trans (cum1 x0 x1 x2 x3 x4 x5 hW hx _)
  | 2 => (val_main_v79_apply ..).trans (cum2 x0 x1 x2 x3 x4 x5 hW hx _)
  | 3 => (val_main_v80_apply ..).trans (cum3 x0 x1 x2 x3 x4 x5 _)

/-- The first result: the running sums of the four matrices' gradients. -/
theorem result0 (j : S4x2x1024x128x128.Idx) : val_main_v81 (F := Ideal) x0 x1 x2 x3 x4 x5 j
    = run (weights x1 x2 x3 x4 x5) (tok x0 (j 1)) (j 0) ((j 2).val + 1) (j 3) (j 4) := by
  unfold val_main_v81
  refine (cat4 (s := S1x2x1024x128x128) 0 (slab0 x0 x1 x2 x3 x4 x5) _ j (j 0) rfl rfl rfl
    (ix5 (0 : Fin 1) (j 1 : Fin 2) (j 2 : Fin 1024) (j 3 : Fin 128) (j 4 : Fin 128)) ?_).trans ?_
  · intro b hb
    match b with
    | ⟨0, _⟩ => exact absurd rfl hb
    | ⟨1, _⟩ => rfl
    | ⟨2, _⟩ => rfl
    | ⟨3, _⟩ => rfl
    | ⟨4, _⟩ => rfl
  · exact slab0_eq x0 x1 x2 x3 x4 x5 hW hx (j 0) _

/-- The four slabs of the second result. -/
def slab1 (l : Fin 4) : S1x2x128x128.Idx → EReal := match l with
  | 0 => val_main_v82 (F := Ideal) x0 x1 x2 x3 x4 x5
  | 1 => val_main_v83 (F := Ideal) x0 x1 x2 x3 x4 x5
  | 2 => val_main_v84 (F := Ideal) x0 x1 x2 x3 x4 x5
  | 3 => val_main_v85 (F := Ideal) x0 x1 x2 x3 x4 x5

/-- Each of the four slabs read at an index. -/
theorem slab1_eq (l : Fin 4) (i : S1x2x128x128.Idx) : slab1 x0 x1 x2 x3 x4 x5 l i
    = mat (weights x1 x2 x3 x4 x5) l (i 2) (i 3) + run (weights x1 x2 x3 x4 x5) (tok x0 (i 1)) l 1024 (i 2) (i 3) := match l with
  | 0 => (val_main_v82_apply ..).trans (mem0 x0 x1 x2 x3 x4 x5 hW hx _)
  | 1 => (val_main_v83_apply ..).trans (mem1 x0 x1 x2 x3 x4 x5 hW hx _)
  | 2 => (val_main_v84_apply ..).trans (mem2 x0 x1 x2 x3 x4 x5 hW hx _)
  | 3 => (val_main_v85_apply ..).trans (mem3 x0 x1 x2 x3 x4 x5 _)

/-- The second result: each matrix plus the whole sum of its gradients. -/
theorem result1 (j : S4x2x128x128.Idx) : val_main_v86 (F := Ideal) x0 x1 x2 x3 x4 x5 j
    = mat (weights x1 x2 x3 x4 x5) (j 0) (j 2) (j 3) + run (weights x1 x2 x3 x4 x5) (tok x0 (j 1)) (j 0) 1024 (j 2) (j 3) := by
  unfold val_main_v86
  refine (cat4 (s := S1x2x128x128) 0 (slab1 x0 x1 x2 x3 x4 x5) _ j (j 0) rfl rfl rfl
    (ix4 (0 : Fin 1) (j 1 : Fin 2) (j 2 : Fin 128) (j 3 : Fin 128)) ?_).trans ?_
  · intro b hb
    match b with
    | ⟨0, _⟩ => exact absurd rfl hb
    | ⟨1, _⟩ => rfl
    | ⟨2, _⟩ => rfl
    | ⟨3, _⟩ => rfl
  · exact slab1_eq x0 x1 x2 x3 x4 x5 hW hx (j 0) _

omit hW hx in
/-- The third result: the losses. -/
theorem result2 (j : S2x16x1x64.Idx) : val_main_v87 (F := Ideal) x0 x1 x2 x3 x4 x5 j
    = loss (weights x1 x2 x3 x4 x5) (tok x0 (j 0) ((j 1).val * 64 + (j 3).val)) := by
  have j0 : (j 0).val < 2 := (j 0).isLt
  have j1 : (j 1).val < 16 := (j 1).isLt
  have j2 : (j 2).val < 1 := (j 2).isLt
  have j3 : (j 3).val < 64 := (j 3).isLt
  rw [val_main_v87_apply, v24]
  unfold row
  refine congrArg (loss (weights x1 x2 x3 x4 x5)) (congr (congrArg (tok x0) (Fin.ext ?_)) ?_)
  · show ((((j 0).val * 16 + (j 1).val) * 1 + (j 2).val) * 64 + (j 3).val) / 1024 = (j 0).val; omega
  · show ((((j 0).val * 16 + (j 1).val) * 1 + (j 2).val) * 64 + (j 3).val) % 1024 = _; omega

end

end Cert.RefSums
-- ==== Proof.Finite.lean ====
/-
  The precondition read: where `|x| < inf` holds of every element of every argument, every element is a real number.
-/
module

public import proofs.«01_k».proof.Defs
public import proofs.«01_k».proof.Proof.RefSums
public import Idealize.ShloMosaic.PureOps.Ideal.Laws

@[expose] public section

set_option maxRecDepth 16384

noncomputable section

namespace Cert.Pre_finite_arguments

open Idealize.ShloMosaic

/-- The precondition's broadcasts are well formed. -/
theorem facts : Facts := ⟨by decide, by decide, by decide⟩

end Cert.Pre_finite_arguments

namespace Cert.Finite

open Idealize.ShloMosaic Cert.Net Cert.RefTokens

/-- The bound the precondition compares with is infinity. -/
theorem bound : Ideal.ofBits .f32 0x7F800000#32 = ⊤ := by
  simp [Ideal.ofBits, Ideal.ieee]

/-- An extended real whose absolute value compares below infinity is a real number. -/
theorem real (y : EReal) (h : Ideal.cmp .olt (max y (-y)) (Ideal.ofBits .f32 0x7F800000#32) = 1#1) : Fin' y := by
  rw [bound] at h
  induction y using EReal.rec with
  | bot => simp [Ideal.cmp] at h
  | coe r => exact ⟨r, rfl⟩
  | top => simp [Ideal.cmp] at h

/-- Every token of the batch is a vector of real numbers when the batch's elements are. -/
theorem tokens (x0 : (⟨3, ![2, 1024, 128]⟩ : Shape).Idx → EReal) (h : ∀ i, Fin' (x0 i)) (r : Fin 2048) (k : Fin 128) :
    Fin' (row x0 r k) := by
  unfold row
  rw [tok_of_lt _ _ _ (Nat.mod_lt _ (by decide))]
  exact h _

/-- The weights are real numbers when the matrices' elements are. -/
theorem matrices (x1 : (⟨2, ![256, 128]⟩ : Shape).Idx → EReal) (x2 x3 x4 x5 : (⟨2, ![128, 128]⟩ : Shape).Idx → EReal)
    (h1 : ∀ i, Fin' (x1 i)) (h2 : ∀ i, Fin' (x2 i)) (h3 : ∀ i, Fin' (x3 i)) (h4 : ∀ i, Fin' (x4 i)) (h5 : ∀ i, Fin' (x5 i)) :
    Weights.Finite (weights x1 x2 x3 x4 x5) :=
  ⟨fun _ _ => h1 _, fun _ _ => h2 _, fun _ _ => h3 _, fun _ _ => h4 _, fun _ _ => h5 _⟩

/-- What the precondition says of the kernel's six arguments. -/
theorem arguments (m : (ℓ : Loc Cert.KernelIdeal.nD Cert.KernelIdeal.τ Cert.KernelIdeal.sig) → Buf (Elt Ideal) ℓ)
    (h : Cert.Pre_KernelIdeal_finite_arguments (hPre_finite_arguments := Cert.Pre_finite_arguments.facts) m)
    (c : Dev Cert.KernelIdeal.nD) :
    (∀ i, Fin' (m ((c.tc : Thread Cert.KernelIdeal.nD Cert.KernelIdeal.τ).loc Cert.KernelIdeal.main_arg0) i))
    ∧ (∀ i, Fin' (m ((c.tc : Thread Cert.KernelIdeal.nD Cert.KernelIdeal.τ).loc Cert.KernelIdeal.main_arg1) i))
    ∧ (∀ i, Fin' (m ((c.tc : Thread Cert.KernelIdeal.nD Cert.KernelIdeal.τ).loc Cert.KernelIdeal.main_arg2) i))
    ∧ (∀ i, Fin' (m ((c.tc : Thread Cert.KernelIdeal.nD Cert.KernelIdeal.τ).loc Cert.KernelIdeal.main_arg3) i))
    ∧ (∀ i, Fin' (m ((c.tc : Thread Cert.KernelIdeal.nD Cert.KernelIdeal.τ).loc Cert.KernelIdeal.main_arg4) i))
    ∧ (∀ i, Fin' (m ((c.tc : Thread Cert.KernelIdeal.nD Cert.KernelIdeal.τ).loc Cert.KernelIdeal.main_arg5) i)) := by
  obtain ⟨h0, h1, h2, h3, h4, h5⟩ := h c
  exact ⟨fun i => real _ (congrFun h0 i), fun i => real _ (congrFun h1 i), fun i => real _ (congrFun h2 i),
    fun i => real _ (congrFun h3 i), fun i => real _ (congrFun h4 i), fun i => real _ (congrFun h5 i)⟩

end Cert.Finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- The reference's three results are the kernel's three arrays when the arguments agree and are finite: both are the
    same running sums, final matrices and losses of the same network. -/
theorem results (m : (ℓ : Loc Cert.KernelIdeal.nD Cert.KernelIdeal.τ Cert.KernelIdeal.sig) → Buf (Elt Ideal) ℓ)
    (h : Cert.Pre_KernelIdeal_finite_arguments (hPre_finite_arguments := Cert.Pre_finite_arguments.facts) m)
    (c : Dev Cert.KernelIdeal.nD) :
    let A0 := Cert.PointValue.A0 m c
    let A1 := Cert.PointValue.A1 m c
    let A2 := Cert.PointValue.A2 m c
    let A3 := Cert.PointValue.A3 m c
    let A4 := Cert.PointValue.A4 m c
    let A5 := Cert.PointValue.A5 m c
    Cert.ReferenceIdeal.Read.val_main_v81 (F := Ideal) A0 A1 A2 A3 A4 A5 = Cert.KernelIdeal.Value.G6 m c
      ∧ Cert.ReferenceIdeal.Read.val_main_v86 (F := Ideal) A0 A1 A2 A3 A4 A5 = Cert.KernelIdeal.Value.G7 m c
      ∧ Cert.ReferenceIdeal.Read.val_main_v87 (F := Ideal) A0 A1 A2 A3 A4 A5 = Cert.KernelIdeal.Value.G8 m c := by
  obtain ⟨h0, h1, h2, h3, h4, h5⟩ := Cert.Finite.arguments m h c
  have hW := Cert.Finite.matrices _ _ _ _ _ h1 h2 h3 h4 h5
  have hx := Cert.Finite.tokens _ h0
  exact ⟨funext fun j => (Cert.RefSums.result0 _ _ _ _ _ _ hW hx j).trans (Cert.Results.sums m c j).symm,
    funext fun j => (Cert.RefSums.result1 _ _ _ _ _ _ hW hx j).trans (Cert.Results.finals m c j).symm,
    funext fun j => (Cert.RefSums.result2 _ _ _ _ _ _ j).trans (Cert.Results.losses m c j).symm⟩

/-- The reference run from arguments that agree with the kernel's: its three results are the stages of the kernel's
    arguments, and its own arguments stay as they were. -/
theorem run_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v81) = Cert.ReferenceIdeal.Read.val_main_v81 (F := Ideal) (Cert.PointValue.A0 m c) (Cert.PointValue.A1 m c) (Cert.PointValue.A2 m c) (Cert.PointValue.A3 m c) (Cert.PointValue.A4 m c) (Cert.PointValue.A5 m c)
      ∧ r.2.mem ((c.tc : Thread Cert.ReferenceIdeal.nD Cert.ReferenceIdeal.τ).loc Cert.ReferenceIdeal.main_v86) = Cert.ReferenceIdeal.Read.val_main_v86 (F := Ideal) (Cert.PointValue.A0 m c) (Cert.PointValue.A1 m c) (Cert.PointValue.A2 m c) (Cert.PointValue.A3 m c) (Cert.PointValue.A4 m c) (Cert.PointValue.A5 m c)
      ∧ r.2.mem ((c.tc : Thread Cert.ReferenceIdeal.nD Cert.ReferenceIdeal.τ).loc Cert.ReferenceIdeal.main_v87) = Cert.ReferenceIdeal.Read.val_main_v87 (F := Ideal) (Cert.PointValue.A0 m c) (Cert.PointValue.A1 m c) (Cert.PointValue.A2 m c) (Cert.PointValue.A3 m c) (Cert.PointValue.A4 m c) (Cert.PointValue.A5 m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run Cert.ReferenceIdeal.defs _ _).mono (fun r h c => ?_) (Cert.ReferenceIdeal.Value.run (F := Ideal) m' ρ')
  obtain ⟨g0, g1, g2, g3, g4, g5⟩ := hag c
  have e0 := (h c).1.trans (Cert.ReferenceIdeal.Read.val_main_v81_eq (StableHlo.launchContents m' c))
  have e1 := (h c).2.1.trans (Cert.ReferenceIdeal.Read.val_main_v86_eq (StableHlo.launchContents m' c))
  have e2 := (h c).2.2.1.trans (Cert.ReferenceIdeal.Read.val_main_v87_eq (StableHlo.launchContents m' c))
  rw [StableHlo.launchContents_devRef, StableHlo.launchContents_devRef, StableHlo.launchContents_devRef,
    StableHlo.launchContents_devRef, StableHlo.launchContents_devRef, StableHlo.launchContents_devRef,
    g0, g1, g2, g3, g4, g5] at e0 e1 e2
  exact ⟨e0, e1, e2, (h c).2.2.2⟩

/-- The value claim: from finite arguments the kernel and the reference end with the same three results. -/
theorem algebraic : Cert.algebraic_KernelIdeal_ReferenceIdeal_pre_finite_arguments (hKernelIdeal := Cert.KernelIdeal.Gen.facts)
    (hReferenceIdeal := Cert.ReferenceIdeal.Gen.facts) (hPre_finite_arguments := Cert.Pre_finite_arguments.facts) := by
  intro m ρ m' ρ' hpre hag
  refine ⟨Cert.KernelIdeal.Value.G6 m, Cert.KernelIdeal.Value.G7 m, Cert.KernelIdeal.Value.G8 m,
    Cert.KernelIdeal.Value.run (F := Ideal) m ρ, ?_⟩
  have e (c : Dev Cert.KernelIdeal.nD) : _ ∧ _ ∧ _ := results m hpre c
  refine (θ_run Cert.ReferenceIdeal.defs _ _).mono (fun r h c => ⟨(h c).1.trans (e c).1, (h c).2.1.trans (e c).2.1,
    (h c).2.2.1.trans (e c).2.2, (h c).2.2.2⟩) (run_reference m m' ρ' hag)

/-- Every claim: the three programs run and leave their arguments as they were; the idealized kernel is the
    kernel's own text; and from finite arguments it ends with the reference's results. -/
theorem claim : Cert.Claim := ⟨Cert.Kernel.Gen.facts, Cert.KernelIdeal.Gen.facts, Cert.ReferenceIdeal.Gen.facts,
  Cert.Pre_finite_arguments.facts, fun m ρ _ => Cert.Kernel.Gen.frame m ρ, fun m ρ _ => Cert.KernelIdeal.Gen.frame m ρ,
  fun m ρ _ => Cert.KernelIdeal.Gen.frame m ρ, fun m ρ _ => frame_reference m ρ, fun m ρ _ => frame_reference m ρ,
  trivial, algebraic⟩

end Cert.Proof

end
